-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = Layout.block ⟨3, ![2, 512, 768]⟩ ⟨3, ![2, 2048, 768]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 512, 8, 64]⟩ ⟨4, ![2, 2048, 8, 64]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 512, 8, 64]⟩ ⟨4, ![2, 2048, 8, 64]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 512, 768]⟩ ⟨3, ![2, 2048, 768]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v49) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x512x768 : Shape := ⟨3, ![2, 512, 768]⟩
abbrev S768x512 : Shape := ⟨2, ![768, 512]⟩
abbrev S2x512x8x64 : Shape := ⟨4, ![2, 512, 8, 64]⟩
abbrev S512x768 : Shape := ⟨2, ![512, 768]⟩
abbrev S_ : Shape := ⟨0, ![]⟩

class Facts : Prop where
  bitsLt_bf16_f32 : FTy.bits .bf16 < FTy.bits .f32
  bcast_S_S2x512x768 : S_.BroadcastsInDim S2x512x768 (![] : Fin 0 → Fin S2x512x768.rank)
  reducesTo_S2x512x768_S_d0_1_2 : S2x512x768.ReducesTo [0, 1, 2] S_
  h_S_ : 0 < S_.numel
  bcast_S_S768x512 : S_.BroadcastsInDim S768x512 (![] : Fin 0 → Fin S768x512.rank)
  reducesTo_S768x512_S_d0_1 : S768x512.ReducesTo [0, 1] S_
  bcast_S_S2x512x8x64 : S_.BroadcastsInDim S2x512x8x64 (![] : Fin 0 → Fin S2x512x8x64.rank)
  reducesTo_S2x512x8x64_S_d0_1_2_3 : S2x512x8x64.ReducesTo [0, 1, 2, 3] S_

variable [Facts]

def fn {F : FTy → Type} [FloatOps F] (main_arg0 : FVec F S2x512x768 .bf16) (main_arg1 : FVec F S768x512 .bf16) (main_arg2 : FVec F S2x512x8x64 .bf16) (main_arg3 : FVec F S2x512x8x64 .bf16) (main_arg4 : FVec F S512x768 .bf16) : IVec S_ 1 :=
  let main_v0 : FVec F S2x512x768 .f32 := (extf .f32 · bitsLt_bf16_f32) main_arg0
  let main_v1 : FVec F S768x512 .f32 := (extf .f32 · bitsLt_bf16_f32) main_arg1
  let main_v2 : FVec F S2x512x8x64 .f32 := (extf .f32 · bitsLt_bf16_f32) main_arg2
  let main_v3 : FVec F S2x512x768 .f32 := Host.absf main_v0
  let main_cst : FVec F S_ .f32 := constant S_ .f32 0x7F800000#32
  let main_v4 : FVec F S2x512x768 .f32 := broadcastInDim S2x512x768 ![] bcast_S_S2x512x768 main_cst
  let main_v5 : IVec S2x512x768 1 := cmpf .olt main_v3 main_v4
  let main_c : IVec S_ 1 := constantI S_ 1 1#1
  let main_v6 : IVec S_ 1 := (fun x v => Host.reduce IntOp.andi x v reducesTo_S2x512x768_S_d0_1_2 h_S_) main_v5 main_c
  let main_v7 : FVec F S768x512 .f32 := Host.absf main_v1
  let main_cst_0 : FVec F S_ .f32 := constant S_ .f32 0x7F800000#32
  let main_v8 : FVec F S768x512 .f32 := broadcastInDim S768x512 ![] bcast_S_S768x512 main_cst_0
  let main_v9 : IVec S768x512 1 := cmpf .olt main_v7 main_v8
  let main_c_1 : IVec S_ 1 := constantI S_ 1 1#1
  let main_v10 : IVec S_ 1 := (fun x v => Host.reduce IntOp.andi x v reducesTo_S768x512_S_d0_1 h_S_) main_v9 main_c_1
  let main_v11 : IVec S_ 1 := andi main_v6 main_v10
  let main_v12 : FVec F S2x512x8x64 .f32 := Host.absf main_v2
  let main_cst_2 : FVec F S_ .f32 := constant S_ .f32 0x7F800000#32
  let main_v13 : FVec F S2x512x8x64 .f32 := broadcastInDim S2x512x8x64 ![] bcast_S_S2x512x8x64 main_cst_2
  let main_v14 : IVec S2x512x8x64 1 := cmpf .olt main_v12 main_v13
  let main_c_3 : IVec S_ 1 := constantI S_ 1 1#1
  let main_v15 : IVec S_ 1 := (fun x v => Host.reduce IntOp.andi x v reducesTo_S2x512x8x64_S_d0_1_2_3 h_S_) main_v14 main_c_3
  let main_v16 : IVec S_ 1 := andi main_v11 main_v15
  main_v16
-- ==== Pre_finite_scores_ReferenceIdeal.lean ====
abbrev S2x2048x768 : Shape := ⟨3, ![2, 2048, 768]⟩
abbrev S768x512 : Shape := ⟨2, ![768, 512]⟩
abbrev S2x2048x8x64 : Shape := ⟨4, ![2, 2048, 8, 64]⟩
abbrev S512x768 : Shape := ⟨2, ![512, 768]⟩
abbrev S_ : Shape := ⟨0, ![]⟩

class Facts : Prop where
  bitsLt_bf16_f32 : FTy.bits .bf16 < FTy.bits .f32
  bcast_S_S2x2048x768 : S_.BroadcastsInDim S2x2048x768 (![] : Fin 0 → Fin S2x2048x768.rank)
  reducesTo_S2x2048x768_S_d0_1_2 : S2x2048x768.ReducesTo [0, 1, 2] S_
  h_S_ : 0 < S_.numel
  bcast_S_S768x512 : S_.BroadcastsInDim S768x512 (![] : Fin 0 → Fin S768x512.rank)
  reducesTo_S768x512_S_d0_1 : S768x512.ReducesTo [0, 1] S_
  bcast_S_S2x2048x8x64 : S_.BroadcastsInDim S2x2048x8x64 (![] : Fin 0 → Fin S2x2048x8x64.rank)
  reducesTo_S2x2048x8x64_S_d0_1_2_3 : S2x2048x8x64.ReducesTo [0, 1, 2, 3] S_

variable [Facts]

def fn {F : FTy → Type} [FloatOps F] (main_arg0 : FVec F S2x2048x768 .bf16) (main_arg1 : FVec F S768x512 .bf16) (main_arg2 : FVec F S2x2048x8x64 .bf16) (main_arg3 : FVec F S2x2048x8x64 .bf16) (main_arg4 : FVec F S512x768 .bf16) : IVec S_ 1 :=
  let main_v0 : FVec F S2x2048x768 .f32 := (extf .f32 · bitsLt_bf16_f32) main_arg0
  let main_v1 : FVec F S768x512 .f32 := (extf .f32 · bitsLt_bf16_f32) main_arg1
  let main_v2 : FVec F S2x2048x8x64 .f32 := (extf .f32 · bitsLt_bf16_f32) main_arg2
  let main_v3 : FVec F S2x2048x768 .f32 := Host.absf main_v0
  let main_cst : FVec F S_ .f32 := constant S_ .f32 0x7F800000#32
  let main_v4 : FVec F S2x2048x768 .f32 := broadcastInDim S2x2048x768 ![] bcast_S_S2x2048x768 main_cst
  let main_v5 : IVec S2x2048x768 1 := cmpf .olt main_v3 main_v4
  let main_c : IVec S_ 1 := constantI S_ 1 1#1
  let main_v6 : IVec S_ 1 := (fun x v => Host.reduce IntOp.andi x v reducesTo_S2x2048x768_S_d0_1_2 h_S_) main_v5 main_c
  let main_v7 : FVec F S768x512 .f32 := Host.absf main_v1
  let main_cst_0 : FVec F S_ .f32 := constant S_ .f32 0x7F800000#32
  let main_v8 : FVec F S768x512 .f32 := broadcastInDim S768x512 ![] bcast_S_S768x512 main_cst_0
  let main_v9 : IVec S768x512 1 := cmpf .olt main_v7 main_v8
  let main_c_1 : IVec S_ 1 := constantI S_ 1 1#1
  let main_v10 : IVec S_ 1 := (fun x v => Host.reduce IntOp.andi x v reducesTo_S768x512_S_d0_1 h_S_) main_v9 main_c_1
  let main_v11 : IVec S_ 1 := andi main_v6 main_v10
  let main_v12 : FVec F S2x2048x8x64 .f32 := Host.absf main_v2
  let main_cst_2 : FVec F S_ .f32 := constant S_ .f32 0x7F800000#32
  let main_v13 : FVec F S2x2048x8x64 .f32 := broadcastInDim S2x2048x8x64 ![] bcast_S_S2x2048x8x64 main_cst_2
  let main_v14 : IVec S2x2048x8x64 1 := cmpf .olt main_v12 main_v13
  let main_c_3 : IVec S_ 1 := constantI S_ 1 1#1
  let main_v15 : IVec S_ 1 := (fun x v => Host.reduce IntOp.andi x v reducesTo_S2x2048x8x64_S_d0_1_2_3 h_S_) main_v14 main_c_3
  let main_v16 : IVec S_ 1 := andi main_v11 main_v15
  main_v16
-- ==== Kernel.lean ====
abbrev S2x512x768 : Shape := ⟨3, ![2, 512, 768]⟩
abbrev S768x512 : Shape := ⟨2, ![768, 512]⟩
abbrev S2x512x8x64 : Shape := ⟨4, ![2, 512, 8, 64]⟩
abbrev S512x768 : Shape := ⟨2, ![512, 768]⟩
abbrev S2x4x2x512x512 : Shape := ⟨5, ![2, 4, 2, 512, 512]⟩
abbrev S1024x512 : Shape := ⟨2, ![1024, 512]⟩
abbrev S2x512x4096 : Shape := ⟨3, ![2, 512, 4096]⟩
abbrev S2x2x3 : Shape := ⟨3, ![2, 2, 3]⟩
abbrev S1x512x8x64 : Shape := ⟨4, ![1, 512, 8, 64]⟩
abbrev S512x8x64 : Shape := ⟨3, ![512, 8, 64]⟩
abbrev S512x512 : Shape := ⟨2, ![512, 512]⟩
abbrev S1x1x1x512x512 : Shape := ⟨5, ![1, 1, 1, 512, 512]⟩
abbrev S_ : Shape := ⟨0, ![]⟩
abbrev S1x1x1 : Shape := ⟨3, ![1, 1, 1]⟩
abbrev S1024x768 : Shape := ⟨2, ![1024, 768]⟩
abbrev S512x1 : Shape := ⟨2, ![512, 1]⟩
abbrev S1x512 : Shape := ⟨2, ![1, 512]⟩
abbrev S512x64 : Shape := ⟨2, ![512, 64]⟩
abbrev S1x1x1x512x64 : Shape := ⟨5, ![1, 1, 1, 512, 64]⟩
abbrev S1x512x512 : Shape := ⟨3, ![1, 512, 512]⟩
abbrev S512 : Shape := ⟨1, ![512]⟩

abbrev nBuf : Space → Nat
  | .hbm => 6
  | .vmem => 10
  | .smem => 0
  | _ => 0

abbrev bufTy : (tb : Table) → Fin (tcTables nBuf tb) → BufTy
  | .hbm, ⟨0, _⟩ => ⟨S2x512x768, .bf16⟩
  | .hbm, ⟨1, _⟩ => ⟨S768x512, .bf16⟩
  | .hbm, ⟨2, _⟩ => ⟨S2x512x8x64, .bf16⟩
  | .hbm, ⟨3, _⟩ => ⟨S2x512x8x64, .bf16⟩
  | .hbm, ⟨4, _⟩ => ⟨S512x768, .bf16⟩
  | .hbm, ⟨5, _⟩ => ⟨S2x512x768, .f32⟩
  | .local _ .vmem, ⟨0, _⟩ => ⟨S2x512x768, .bf16⟩
  | .local _ .vmem, ⟨1, _⟩ => ⟨S768x512, .bf16⟩
  | .local _ .vmem, ⟨2, _⟩ => ⟨S2x512x8x64, .bf16⟩
  | .local _ .vmem, ⟨3, _⟩ => ⟨S2x512x8x64, .bf16⟩
  | .local _ .vmem, ⟨4, _⟩ => ⟨S512x768, .bf16⟩
  | .local _ .vmem, ⟨5, _⟩ => ⟨S2x512x768, .f32⟩
  | .local _ .vmem, ⟨6, _⟩ => ⟨S2x4x2x512x512, .fp8e4m3⟩
  | .local _ .vmem, ⟨7, _⟩ => ⟨S1024x512, .f32⟩
  | .local _ .vmem, ⟨8, _⟩ => ⟨S1024x512, .bf16⟩
  | .local _ .vmem, ⟨9, _⟩ => ⟨S2x512x4096, .bf16⟩
  | _, _ => ⟨S2x512x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  (ofTc nBuf bufTy 1 30 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_40 : BitVec 32 := 1#32
  let v37 : BitVec 32 := Scalar.muli v5 c1_i32_40
  let v38 : BitVec 32 := Scalar.addi c0_i32 v37
  v38.toNat
def k0_dev2 (d0 : Dev nD) : Nat :=
  let c0_i32_43 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_42 : BitVec 32 := 1#32
  let v39 : BitVec 32 := Scalar.muli v7 c1_i32_42
  let v40 : BitVec 32 := Scalar.addi c0_i32_43 v39
  v40.toNat
def k0_dev3 (d0 : Dev nD) : Nat :=
  let c0_i32_57 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_56 : BitVec 32 := 1#32
  let v41 : BitVec 32 := Scalar.muli v7 c1_i32_56
  let v42 : BitVec 32 := Scalar.addi c0_i32_57 v41
  v42.toNat
def k0_dev4 (d0 : Dev nD) : Nat :=
  let c0_i32_75 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_74 : BitVec 32 := 1#32
  let v51 : BitVec 32 := Scalar.muli v5 c1_i32_74
  let v52 : BitVec 32 := Scalar.addi c0_i32_75 v51
  v52.toNat
def k0_dev5 (d0 : Dev nD) : Nat :=
  let c0_i32_93 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_92 : BitVec 32 := 1#32
  let v61 : BitVec 32 := Scalar.muli v7 c1_i32_92
  let v62 : BitVec 32 := Scalar.addi c0_i32_93 v61
  v62.toNat
def k0_dev6 (d0 : Dev nD) : Nat :=
  let c0_i32_111 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_110 : BitVec 32 := 1#32
  let v71 : BitVec 32 := Scalar.muli v5 c1_i32_110
  let v72 : BitVec 32 := Scalar.addi c0_i32_111 v71
  v72.toNat
def k0_dev7 (d0 : Dev nD) : Nat :=
  let c0_i32_564 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_563 : BitVec 32 := 1#32
  let v580 : BitVec 32 := Scalar.muli v7 c1_i32_563
  let v581 : BitVec 32 := Scalar.addi c0_i32_564 v580
  v581.toNat
def k0_dev8 (d0 : Dev nD) : Nat :=
  let c0_i32_582 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_581 : BitVec 32 := 1#32
  let v590 : BitVec 32 := Scalar.muli v5 c1_i32_581
  let v591 : BitVec 32 := Scalar.addi c0_i32_582 v590
  v591.toNat
def k0_dev9 (d0 : Dev nD) : Nat :=
  let c0_i32_858 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_857 : BitVec 32 := 1#32
  let v922 : BitVec 32 := Scalar.muli v7 c1_i32_857
  let v923 : BitVec 32 := Scalar.addi c0_i32_858 v922
  v923.toNat
def k0_dev10 (d0 : Dev nD) : Nat :=
  let c0_i32_876 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_875 : BitVec 32 := 1#32
  let v932 : BitVec 32 := Scalar.muli v5 c1_i32_875
  let v933 : BitVec 32 := Scalar.addi c0_i32_876 v932
  v933.toNat
def k0_dev11 (d0 : Dev nD) : Nat :=
  let c0_i32_1172 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1171 : BitVec 32 := 1#32
  let v1146 : BitVec 32 := Scalar.muli v7 c1_i32_1171
  let v1147 : BitVec 32 := Scalar.addi c0_i32_1172 v1146
  v1147.toNat
def k0_dev12 (d0 : Dev nD) : Nat :=
  let c0_i32_1190 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1189 : BitVec 32 := 1#32
  let v1156 : BitVec 32 := Scalar.muli v5 c1_i32_1189
  let v1157 : BitVec 32 := Scalar.addi c0_i32_1190 v1156
  v1157.toNat
def k0_dev13 (d0 : Dev nD) : Nat :=
  let c0_i32_1459 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1458 : BitVec 32 := 1#32
  let v1469 : BitVec 32 := Scalar.muli v7 c1_i32_1458
  let v1470 : BitVec 32 := Scalar.addi c0_i32_1459 v1469
  v1470.toNat
def k0_dev14 (d0 : Dev nD) : Nat :=
  let c0_i32_1477 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1476 : BitVec 32 := 1#32
  let v1479 : BitVec 32 := Scalar.muli v5 c1_i32_1476
  let v1480 : BitVec 32 := Scalar.addi c0_i32_1477 v1479
  v1480.toNat
abbrev stage0_0 : Fin 1 → Memref sig .tc .vmem S2x512x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x8x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x8x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x512x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x2048x768 : Shape := ⟨3, ![2, 2048, 768]⟩
abbrev S768x512 : Shape := ⟨2, ![768, 512]⟩
abbrev S2x2048x8x64 : Shape := ⟨4, ![2, 2048, 8, 64]⟩
abbrev S512x768 : Shape := ⟨2, ![512, 768]⟩
abbrev S2x2048x512 : Shape := ⟨3, ![2, 2048, 512]⟩
abbrev S2048 : Shape := ⟨1, ![2048]⟩
abbrev S_ : Shape := ⟨0, ![]⟩
abbrev S2048x1 : Shape := ⟨2, ![2048, 1]⟩
abbrev S1x2048 : Shape := ⟨2, ![1, 2048]⟩
abbrev S2048x2048 : Shape := ⟨2, ![2048, 2048]⟩
abbrev S2x8x2048x2048 : Shape := ⟨4, ![2, 8, 2048, 2048]⟩
abbrev S1x1x2048x2048 : Shape := ⟨4, ![1, 1, 2048, 2048]⟩
abbrev S2x8x2048 : Shape := ⟨3, ![2, 8, 2048]⟩
abbrev S2x8x2048x1 : Shape := ⟨4, ![2, 8, 2048, 1]⟩
abbrev S1x1x2048x1 : Shape := ⟨4, ![1, 1, 2048, 1]⟩
abbrev S2x8x64x2048 : Shape := ⟨4, ![2, 8, 64, 2048]⟩

abbrev nBuf : Space → Nat
  | .hbm => 128
  | .vmem => 0
  | .smem => 0
  | _ => 0

abbrev bufTy : (tb : Table) → Fin (tcTables nBuf tb) → BufTy
  | .hbm, ⟨0, _⟩ => ⟨S2x2048x768, .bf16⟩
  | .hbm, ⟨1, _⟩ => ⟨S768x512, .bf16⟩
  | .hbm, ⟨2, _⟩ => ⟨S2x2048x8x64, .bf16⟩
  | .hbm, ⟨3, _⟩ => ⟨S2x2048x8x64, .bf16⟩
  | .hbm, ⟨4, _⟩ => ⟨S512x768, .bf16⟩
  | .hbm, ⟨5, _⟩ => ⟨S2x2048x768, .f32⟩
  | .hbm, ⟨6, _⟩ => ⟨S768x512, .f32⟩
  | .hbm, ⟨7, _⟩ => ⟨S2x2048x8x64, .f32⟩
  | .hbm, ⟨8, _⟩ => ⟨S2x2048x8x64, .f32⟩
  | .hbm, ⟨9, _⟩ => ⟨S512x768, .f32⟩
  | .hbm, ⟨10, _⟩ => ⟨S2x2048x512, .f32⟩
  | .hbm, ⟨11, _⟩ => ⟨S2x2048x8x64, .f32⟩
  | .hbm, ⟨12, _⟩ => ⟨S2048, .i32⟩
  | .hbm, ⟨13, _⟩ => ⟨S_, .i32⟩
  | .hbm, ⟨14, _⟩ => ⟨S_, .i32⟩
  | .hbm, ⟨15, _⟩ => ⟨S2048, .i32⟩
  | .hbm, ⟨16, _⟩ => ⟨S2048, .i32⟩
  | .hbm, ⟨17, _⟩ => ⟨S2048, .i32⟩
  | .hbm, ⟨18, _⟩ => ⟨S_, .i32⟩
  | .hbm, ⟨19, _⟩ => ⟨S2048, .i32⟩
  | .hbm, ⟨20, _⟩ => ⟨S2048, .i1⟩
  | .hbm, ⟨21, _⟩ => ⟨S2048, .i32⟩
  | .hbm, ⟨22, _⟩ => ⟨S2048, .i32⟩
  | .hbm, ⟨23, _⟩ => ⟨S_, .i32⟩
  | .hbm, ⟨24, _⟩ => ⟨S2048, .i32⟩
  | .hbm, ⟨25, _⟩ => ⟨S2048, .i1⟩
  | .hbm, ⟨26, _⟩ => ⟨S2048, .i1⟩
  | .hbm, ⟨27, _⟩ => ⟨S_, .i32⟩
  | .hbm, ⟨28, _⟩ => ⟨S2048, .i32⟩
  | .hbm, ⟨29, _⟩ => ⟨S2048, .i32⟩
  | .hbm, ⟨30, _⟩ => ⟨S2048, .i32⟩
  | .hbm, ⟨31, _⟩ => ⟨S2048x1, .i32⟩
  | .hbm, ⟨32, _⟩ => ⟨S2048, .i32⟩
  | .hbm, ⟨33, _⟩ => ⟨S_, .i32⟩
  | .hbm, ⟨34, _⟩ => ⟨S_, .i32⟩
  | .hbm, ⟨35, _⟩ => ⟨S2048, .i32⟩
  | .hbm, ⟨36, _⟩ => ⟨S2048, .i32⟩
  | .hbm, ⟨37, _⟩ => ⟨S2048, .i32⟩
  | .hbm, ⟨38, _⟩ => ⟨S_, .i32⟩
  | .hbm, ⟨39, _⟩ => ⟨S2048, .i32⟩
  | .hbm, ⟨40, _⟩ => ⟨S2048, .i1⟩
  | .hbm, ⟨41, _⟩ => ⟨S2048, .i32⟩
  | .hbm, ⟨42, _⟩ => ⟨S2048, .i32⟩
  | .hbm, ⟨43, _⟩ => ⟨S_, .i32⟩
  | .hbm, ⟨44, _⟩ => ⟨S2048, .i32⟩
  | .hbm, ⟨45, _⟩ => ⟨S2048, .i1⟩
  | .hbm, ⟨46, _⟩ => ⟨S2048, .i1⟩
  | .hbm, ⟨47, _⟩ => ⟨S_, .i32⟩
  | .hbm, ⟨48, _⟩ => ⟨S2048, .i32⟩
  | .hbm, ⟨49, _⟩ => ⟨S2048, .i32⟩
  | .hbm, ⟨50, _⟩ => ⟨S2048, .i32⟩
  | .hbm, ⟨51, _⟩ => ⟨S1x2048, .i32⟩
  | .hbm, ⟨52, _⟩ => ⟨S2048x2048, .i32⟩
  | .hbm, ⟨53, _⟩ => ⟨S2048x2048, .i32⟩
  | .hbm, ⟨54, _⟩ => ⟨S2048x2048, .i1⟩
  | .hbm, ⟨55, _⟩ => ⟨S_, .i32⟩
  | .hbm, ⟨56, _⟩ => ⟨S1x2048, .i32⟩
  | .hbm, ⟨57, _⟩ => ⟨S1x2048, .i1⟩
  | .hbm, ⟨58, _⟩ => ⟨S2048x2048, .i1⟩
  | .hbm, ⟨59, _⟩ => ⟨S2048x2048, .i1⟩
  | .hbm, ⟨60, _⟩ => ⟨S2048x2048, .i32⟩
  | .hbm, ⟨61, _⟩ => ⟨S2048x2048, .i32⟩
  | .hbm, ⟨62, _⟩ => ⟨S2048x2048, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S_, .i1⟩
  | .hbm, ⟨67, _⟩ => ⟨S_, .i32⟩
  | .hbm, ⟨68, _⟩ => ⟨S_, .i32⟩
  | .hbm, ⟨69, _⟩ => ⟨S2048x2048, .i32⟩
  | .hbm, ⟨70, _⟩ => ⟨S2048x2048, .i32⟩
  | .hbm, ⟨71, _⟩ => ⟨S_, .i32⟩
  | .hbm, ⟨72, _⟩ => ⟨S2048x2048, .i32⟩
  | .hbm, ⟨73, _⟩ => ⟨S2048x2048, .i1⟩
  | .hbm, ⟨74, _⟩ => ⟨S_, .i32⟩
  | .hbm, ⟨75, _⟩ => ⟨S2048x2048, .i32⟩
  | .hbm, ⟨76, _⟩ => ⟨S2048x2048, .i1⟩
  | .hbm, ⟨77, _⟩ => ⟨S_, .i32⟩
  | .hbm, ⟨78, _⟩ => ⟨S_, .i1⟩
  | .hbm, ⟨79, _⟩ => ⟨S2048x2048, .i1⟩
  | .hbm, ⟨80, _⟩ => ⟨S2048x2048, .i1⟩
  | .hbm, ⟨81, _⟩ => ⟨S2048x2048, .i1⟩
  | .hbm, ⟨82, _⟩ => ⟨S2048x2048, .i32⟩
  | .hbm, ⟨83, _⟩ => ⟨S2048x2048, .i32⟩
  | .hbm, ⟨84, _⟩ => ⟨S2048x2048, .i32⟩
  | .hbm, ⟨85, _⟩ => ⟨S_, .i32⟩
  | .hbm, ⟨86, _⟩ => ⟨S2048x2048, .i32⟩
  | .hbm, ⟨87, _⟩ => ⟨S2048x2048, .i1⟩
  | .hbm, ⟨88, _⟩ => ⟨S2048x2048, .i1⟩
  | .hbm, ⟨89, _⟩ => ⟨S2x8x2048x2048, .f32⟩
  | .hbm, ⟨90, _⟩ => ⟨S_, .f32⟩
  | .hbm, ⟨91, _⟩ => ⟨S2x8x2048x2048, .f32⟩
  | .hbm, ⟨92, _⟩ => ⟨S2x8x2048x2048, .f32⟩
  | .hbm, ⟨93, _⟩ => ⟨S1x1x2048x2048, .i1⟩
  | .hbm, ⟨94, _⟩ => ⟨S_, .f32⟩
  | .hbm, ⟨95, _⟩ => ⟨S_, .f32⟩
  | .hbm, ⟨96, _⟩ => ⟨S2x8x2048x2048, .i1⟩
  | .hbm, ⟨97, _⟩ => ⟨S2x8x2048x2048, .f32⟩
  | .hbm, ⟨98, _⟩ => ⟨S2x8x2048x2048, .f32⟩
  | .hbm, ⟨99, _⟩ => ⟨S_, .f32⟩
  | .hbm, ⟨100, _⟩ => ⟨S2x8x2048, .f32⟩
  | .hbm, ⟨101, _⟩ => ⟨S2x8x2048x1, .f32⟩
  | .hbm, ⟨102, _⟩ => ⟨S2x8x2048x2048, .f32⟩
  | .hbm, ⟨103, _⟩ => ⟨S2x8x2048x2048, .f32⟩
  | .hbm, ⟨104, _⟩ => ⟨S2x8x2048x2048, .f32⟩
  | .hbm, ⟨105, _⟩ => ⟨S_, .i1⟩
  | .hbm, ⟨106, _⟩ => ⟨S2048, .i1⟩
  | .hbm, ⟨107, _⟩ => ⟨S1x1x2048x1, .i1⟩
  | .hbm, ⟨108, _⟩ => ⟨S_, .f32⟩
  | .hbm, ⟨109, _⟩ => ⟨S2x8x2048, .f32⟩
  | .hbm, ⟨110, _⟩ => ⟨S2x8x2048x1, .f32⟩
  | .hbm, ⟨111, _⟩ => ⟨S_, .f32⟩
  | .hbm, ⟨112, _⟩ => ⟨S_, .f32⟩
  | .hbm, ⟨113, _⟩ => ⟨S2x8x2048x1, .i1⟩
  | .hbm, ⟨114, _⟩ => ⟨S2x8x2048x1, .f32⟩
  | .hbm, ⟨115, _⟩ => ⟨S2x8x2048x1, .f32⟩
  | .hbm, ⟨116, _⟩ => ⟨S2x8x2048x2048, .f32⟩
  | .hbm, ⟨117, _⟩ => ⟨S2x8x2048x2048, .f32⟩
  | .hbm, ⟨118, _⟩ => ⟨S1x1x2048x1, .i1⟩
  | .hbm, ⟨119, _⟩ => ⟨S_, .f32⟩
  | .hbm, ⟨120, _⟩ => ⟨S_, .f32⟩
  | .hbm, ⟨121, _⟩ => ⟨S2x8x2048x2048, .i1⟩
  | .hbm, ⟨122, _⟩ => ⟨S2x8x2048x2048, .f32⟩
  | .hbm, ⟨123, _⟩ => ⟨S2x8x2048x2048, .f32⟩
  | .hbm, ⟨124, _⟩ => ⟨S2x8x64x2048, .f32⟩
  | .hbm, ⟨125, _⟩ => ⟨S2x2048x8x64, .f32⟩
  | .hbm, ⟨126, _⟩ => ⟨S2x2048x512, .f32⟩
  | .hbm, ⟨127, _⟩ => ⟨S2x2048x768, .f32⟩
  | _, _ => ⟨S2x2048x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_c_1 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_c_2 : Ref sig .tc := ⟨.hbm, 63, rfl⟩
abbrev main_call2_v0 : Ref sig .tc := ⟨.hbm, 64, rfl⟩
abbrev main_call2_c : Ref sig .tc := ⟨.hbm, 65, rfl⟩
abbrev main_call2_v1 : Ref sig .tc := ⟨.hbm, 66, rfl⟩
abbrev main_call2_c_0 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_c_1 : Ref sig .tc := ⟨.hbm, 71, rfl⟩
abbrev main_call2_v5 : Ref sig .tc := ⟨.hbm, 72, rfl⟩
abbrev main_call2_v6 : Ref sig .tc := ⟨.hbm, 73, rfl⟩
abbrev main_call2_c_2 : Ref sig .tc := ⟨.hbm, 74, rfl⟩
abbrev main_call2_v7 : Ref sig .tc := ⟨.hbm, 75, rfl⟩
abbrev main_call2_v8 : Ref sig .tc := ⟨.hbm, 76, rfl⟩
abbrev main_call2_c_3 : Ref sig .tc := ⟨.hbm, 77, rfl⟩
abbrev main_call2_v9 : Ref sig .tc := ⟨.hbm, 78, rfl⟩
abbrev main_call2_v10 : Ref sig .tc := ⟨.hbm, 79, rfl⟩
abbrev main_call2_v11 : Ref sig .tc := ⟨.hbm, 80, rfl⟩
abbrev main_call2_v12 : Ref sig .tc := ⟨.hbm, 81, rfl⟩
abbrev main_call2_v13 : Ref sig .tc := ⟨.hbm, 82, rfl⟩
abbrev main_call2_v14 : Ref sig .tc := ⟨.hbm, 83, rfl⟩
abbrev main_v23 : Ref sig .tc := ⟨.hbm, 84, rfl⟩
abbrev main_c_3 : Ref sig .tc := ⟨.hbm, 85, rfl⟩
abbrev main_v24 : Ref sig .tc := ⟨.hbm, 86, rfl⟩
abbrev main_v25 : Ref sig .tc := ⟨.hbm, 87, rfl⟩
abbrev main_v26 : Ref sig .tc := ⟨.hbm, 88, rfl⟩
abbrev main_v27 : Ref sig .tc := ⟨.hbm, 89, rfl⟩
abbrev main_cst : Ref sig .tc := ⟨.hbm, 90, rfl⟩
abbrev main_v28 : Ref sig .tc := ⟨.hbm, 91, rfl⟩
abbrev main_v29 : Ref sig .tc := ⟨.hbm, 92, rfl⟩
abbrev main_v30 : Ref sig .tc := ⟨.hbm, 93, rfl⟩
abbrev main_cst_4 : Ref sig .tc := ⟨.hbm, 94, rfl⟩
abbrev main_call3_v0 : Ref sig .tc := ⟨.hbm, 95, rfl⟩
abbrev main_call3_v1 : Ref sig .tc := ⟨.hbm, 96, rfl⟩
abbrev main_call3_v2 : Ref sig .tc := ⟨.hbm, 97, rfl⟩
abbrev main_v31 : Ref sig .tc := ⟨.hbm, 98, rfl⟩
abbrev main_cst_5 : Ref sig .tc := ⟨.hbm, 99, rfl⟩
abbrev main_v32 : Ref sig .tc := ⟨.hbm, 100, rfl⟩
abbrev main_v33 : Ref sig .tc := ⟨.hbm, 101, rfl⟩
abbrev main_v34 : Ref sig .tc := ⟨.hbm, 102, rfl⟩
abbrev main_v35 : Ref sig .tc := ⟨.hbm, 103, rfl⟩
abbrev main_v36 : Ref sig .tc := ⟨.hbm, 104, rfl⟩
abbrev main_c_6 : Ref sig .tc := ⟨.hbm, 105, rfl⟩
abbrev main_v37 : Ref sig .tc := ⟨.hbm, 106, rfl⟩
abbrev main_v38 : Ref sig .tc := ⟨.hbm, 107, rfl⟩
abbrev main_cst_7 : Ref sig .tc := ⟨.hbm, 108, rfl⟩
abbrev main_v39 : Ref sig .tc := ⟨.hbm, 109, rfl⟩
abbrev main_v40 : Ref sig .tc := ⟨.hbm, 110, rfl⟩
abbrev main_cst_8 : Ref sig .tc := ⟨.hbm, 111, rfl⟩
abbrev main_call4_v0 : Ref sig .tc := ⟨.hbm, 112, rfl⟩
abbrev main_call4_v1 : Ref sig .tc := ⟨.hbm, 113, rfl⟩
abbrev main_call4_v2 : Ref sig .tc := ⟨.hbm, 114, rfl⟩
abbrev main_v41 : Ref sig .tc := ⟨.hbm, 115, rfl⟩
abbrev main_v42 : Ref sig .tc := ⟨.hbm, 116, rfl⟩
abbrev main_v43 : Ref sig .tc := ⟨.hbm, 117, rfl⟩
abbrev main_v44 : Ref sig .tc := ⟨.hbm, 118, rfl⟩
abbrev main_cst_9 : Ref sig .tc := ⟨.hbm, 119, rfl⟩
abbrev main_call5_v0 : Ref sig .tc := ⟨.hbm, 120, rfl⟩
abbrev main_call5_v1 : Ref sig .tc := ⟨.hbm, 121, rfl⟩
abbrev main_call5_v2 : Ref sig .tc := ⟨.hbm, 122, rfl⟩
abbrev main_v45 : Ref sig .tc := ⟨.hbm, 123, rfl⟩
abbrev main_v46 : Ref sig .tc := ⟨.hbm, 124, rfl⟩
abbrev main_v47 : Ref sig .tc := ⟨.hbm, 125, rfl⟩
abbrev main_v48 : Ref sig .tc := ⟨.hbm, 126, rfl⟩
abbrev main_v49 : Ref sig .tc := ⟨.hbm, 127, rfl⟩

abbrev nD : Nat := 1
abbrev τ : Topo := Topo.v7x

variable {F : FTy → Type} [FloatOps F]
-- ==== Proof.Protocol.lean ====
/-
# 01_k — `Protocol`: the semaphores of the two rings of copies, and what each landing holds

Device `c` keeps for each of the two batches `d` a chain of four slots (hop `h`), each a K half (`k = 0`) and a V half
(`k = 1`). Batch 0 travels to the right neighbour, batch 1 to the left one: copy number `i = 4h + 2k + d` moves
slot `(d, h, k)` of `c` into slot `(d, h+1, k)` of its target `tgt c d`.

* The barrier cell of `c` has two duties of one unit: duty `d` is paid by the device `c` sends batch `d` to, and hands
  `c` that device's landing slots of batch `d` (hops 1, 2, 3).
* The send cell of copy `i` has one duty of a slot's credit, paid by `c`'s own copy: it hands back the half share of
  the source slot which the copy reads (the other half stays with `c`, whose loads run while the copy is in flight).
* The receive cell of copy `i` has one duty of a slot's credit, paid by the device whose target `c` is: it hands `c`
  the landed slot, at the contents `commG c`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's (duties named by a batch) -/

abbrev UB : Type := URounds (GSem nD τ sig) (Fin 2)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents and registers, every counter zero. -/
def s₀ : MemSt nD τ sig (Elt F) := ⟨m, fun _ => 0, ρ⟩

/-! ## The ring of devices -/

set_option backward.proofsInPublic true in
def nxt (c : Dev nD) : Dev nD := ⟨(c.val + 1) % 4, Nat.mod_lt _ (by decide)⟩
set_option backward.proofsInPublic true in
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide

/-- Where device `c` sends batch `d`: batch 0 to the right, batch 1 to the left; -/
def tgt (c : Dev nD) (d : Fin 2) : Dev nD := if d = 0 then nxt c else prv c
/-- and where it receives batch `d` from. -/
def src (c : Dev nD) (d : Fin 2) : Dev nD := if d = 0 then prv c else nxt c
/-- Whose keys and values device `c` holds for batch `d` at hop `h`. -/
def org (c : Dev nD) (d : Fin 2) (h : Fin 4) : Dev nD :=
  if d = 0 then ⟨(c.val + 4 - h.val) % 4, Nat.mod_lt _ (by decide)⟩ else ⟨(c.val + h.val) % 4, Nat.mod_lt _ (by decide)⟩

theorem tgt_src (c : Dev nD) (d : Fin 2) : tgt (src c d) d = c := by revert c d; decide
theorem src_tgt (c : Dev nD) (d : Fin 2) : src (tgt c d) d = c := by revert c d; decide
theorem org_zero (c : Dev nD) (d : Fin 2) : org c d 0 = c := by revert c d; decide
theorem org_tgt : ∀ (c : Dev nD) (d : Fin 2) (h : Fin 3), org (tgt c d) d h.succ = org c d h.castSucc := by decide
theorem tgt_zero (c : Dev nD) : tgt c 0 = nxt c := if_pos rfl
theorem tgt_one (c : Dev nD) : tgt c 1 = prv c := if_neg (by decide)

/-- The devices, moved along batch `d`'s direction. -/
def ring (d : Fin 2) : Dev nD ≃ Dev nD := ⟨fun c => tgt c d, fun c => src c d, fun c => src_tgt c d, fun c => tgt_src c d⟩

/-! ## The slots -/

abbrev commM : Memref sig .tc .vmem S2x4x2x512x512 .fp8e4m3 := Memref.whole cc0_scratch0

/-- Slot `(d, h, k)`, the offsets as numbers: the memref the program's copies name. -/
abbrev slotM (d h k : ℕ) (hb : ∀ a, (![d, h, k, 0, 0] : Fin 5 → ℕ) a + S1x1x1x512x512.size a ≤ S2x4x2x512x512.size a) :
    Memref sig .tc .vmem S512x512 .fp8e4m3 :=
  (commM.slice (Rect.unit (s := S2x4x2x512x512) ![d, h, k, 0, 0] S1x1x1x512x512.size hb) (fun _ => rfl)).squeeze S512x512
    squeezes_S1x1x1x512x512_S512x512

theorem inbSlot (d : Fin 2) (h : Fin 4) (k : Fin 2) :
    ∀ a, (![d.val, h.val, k.val, 0, 0] : Fin 5 → ℕ) a + S1x1x1x512x512.size a ≤ S2x4x2x512x512.size a := by
  revert d h k; decide

/-- Slot `(d, h, k)` of device `c` at share `q`, holding (on the slot) the values of the whole-buffer contents `f`. -/
def slotPts (c : Dev nD) (d : Fin 2) (h : Fin 4) (k : Fin 2) (q : PosShare TreeShare) (f : Buf (Elt F) ((c : Thread nD τ).loc cc0_scratch0)) : sProp 𝕄 :=
  (slotM d.val h.val k.val (inbSlot d h k)).view.loc (c : Thread nD τ) ↦[(slotM d.val h.val k.val (inbSlot d h k)).view.set]{q} f

omit [FloatOps F] in
instance slotPts_storable (c : Dev nD) (d : Fin 2) (h : Fin 4) (k : Fin 2) (q) (f) :
    BI.Storable (upEmb : UEmb _ 𝕄) (slotPts (F := F) c d h k q f) := by unfold slotPts; infer_instance

/-- The elements of slot `(d, h, k)`. -/
theorem mem_slot (d h k : ℕ) (hb) (x : S2x4x2x512x512.Idx) :
    x ∈ (slotM d h k hb).view.set ↔ ((x 0).val = d ∧ (x 1).val = h ∧ (x 2).val = k) := by
  have h1 : (slotM d h k hb).view.set
      = (Rect.unit (s := S2x4x2x512x512) ![d, h, k, 0, 0] S1x1x1x512x512.size hb).set :=
    (View.set_reshape _ _).trans (View.set_slice_whole _ _)
  rw [h1, Rect.mem_set_unit]
  constructor
  · intro hx
    have h0 : d ≤ (x 0).val ∧ (x 0).val < d + 1 := hx 0
    have h1 : h ≤ (x 1).val ∧ (x 1).val < h + 1 := hx 1
    have h2 : k ≤ (x 2).val ∧ (x 2).val < k + 1 := hx 2
    omega
  · rintro ⟨h0, h1, h2⟩ a
    match a with
    | 0 => show d ≤ (x 0).val ∧ (x 0).val < d + 1; omega
    | 1 => show h ≤ (x 1).val ∧ (x 1).val < h + 1; omega
    | 2 => show k ≤ (x 2).val ∧ (x 2).val < k + 1; omega
    | 3 => exact ⟨Nat.zero_le _, by show (x 3).val < 0 + 512; have : (x 3).val < 512 := (x 3).isLt; omega⟩
    | 4 => exact ⟨Nat.zero_le _, by show (x 4).val < 0 + 512; have : (x 4).val < 512 := (x 4).isLt; omega⟩

/-- The scratch buffer is its sixteen slots. -/
theorem comm_slots (c : Dev nD) (f : Buf (Elt F) ((c : Thread nD τ).loc cc0_scratch0)) :
    (((c : Thread nD τ).loc cc0_scratch0) ↦{fullShare} f : sProp 𝕄)
      = bigSep Finset.univ fun x : Fin 2 × Fin 4 × Fin 2 => slotPts c x.1 x.2.1 x.2.2 fullShare f := by
  have hU : (Finset.univ : Finset S2x4x2x512x512.Idx)
      = (Finset.univ : Finset (Fin 2 × Fin 4 × Fin 2)).biUnion fun x => (slotM x.1.val x.2.1.val x.2.2.val (inbSlot x.1 x.2.1 x.2.2)).view.set := by
    refine (Finset.eq_univ_iff_forall.mpr fun x => ?_).symm
    exact Finset.mem_biUnion.mpr ⟨(⟨(x 0).val, (x 0).isLt⟩, ⟨(x 1).val, (x 1).isLt⟩, ⟨(x 2).val, (x 2).isLt⟩), Finset.mem_univ _,
      (mem_slot _ _ _ _ x).mpr ⟨rfl, rfl, rfl⟩⟩
  refine Eq.trans (b := (((c : Thread nD τ).loc cc0_scratch0) ↦[(Finset.univ : Finset (Fin 2 × Fin 4 × Fin 2)).biUnion
      fun x => (slotM x.1.val x.2.1.val x.2.2.val (inbSlot x.1 x.2.1 x.2.2)).view.set]{fullShare} f : sProp 𝕄)) ?_ ?_
  · rw [← hU]
  · exact pointsTo_biUnion Finset.univ _ fun t _ t' _ hne => Finset.disjoint_left.mpr fun x hx hx' => hne (by
      obtain ⟨a0, a1, a2⟩ := (mem_slot _ _ _ _ x).mp hx
      obtain ⟨b0, b1, b2⟩ := (mem_slot _ _ _ _ x).mp hx'
      exact Prod.ext (Fin.ext (a0.symm.trans b0)) (Prod.ext (Fin.ext (a1.symm.trans b1)) (Fin.ext (a2.symm.trans b2))))

/-! ## Contents -/

/-- The staged blocks of device `c`: activations, query weights, keys, values, output weights. -/
def xstg (c : Dev nD) : (cc0_stg0_0 : Ref sig .tc).ty.Contents (Elt F) :=
  (win0_0.blk (0 : Fin 1)).view.read (Elt F) ((s₀ m ρ).mem ((c : Thread nD τ).loc main_arg0))
def wqstg (c : Dev nD) : (cc0_stg1_0 : Ref sig .tc).ty.Contents (Elt F) :=
  (win0_1.blk (0 : Fin 1)).view.read (Elt F) ((s₀ m ρ).mem ((c : Thread nD τ).loc main_arg1))
def kstg (c : Dev nD) : (cc0_stg2_0 : Ref sig .tc).ty.Contents (Elt F) :=
  (win0_2.blk (0 : Fin 1)).view.read (Elt F) ((s₀ m ρ).mem ((c : Thread nD τ).loc main_arg2))
def vstg (c : Dev nD) : (cc0_stg3_0 : Ref sig .tc).ty.Contents (Elt F) :=
  (win0_3.blk (0 : Fin 1)).view.read (Elt F) ((s₀ m ρ).mem ((c : Thread nD τ).loc main_arg3))
def wostg (c : Dev nD) : (cc0_stg4_0 : Ref sig .tc).ty.Contents (Elt F) :=
  (win0_4.blk (0 : Fin 1)).view.read (Elt F) ((s₀ m ρ).mem ((c : Thread nD τ).loc main_arg4))

/-- Batch `d` of a staged key or value block. -/
def batchOf (d : Fin 2) (X : S2x512x8x64.Idx → Elt F .bf16) : Vec F S1x512x8x64 .bf16 :=
  fun j => X fun a => match a with | 0 => d | 1 => j 1 | 2 => j 2 | 3 => j 3

/-- What the copies of batch `d` carry that started at device `c`: its keys (`k = 0`) or values (`k = 1`), narrowed. -/
def kvPay (c : Dev nD) (d k : Fin 2) : FVec F S1x1x1x512x512 .fp8e4m3 :=
  k0_pay4 (batchOf d (if k = 0 then kstg m ρ c else vstg m ρ c))

/-- The whole scratch buffer of device `c` once everything landed: slot `(d, h, k)` holds what started at `org c d h`. -/
def commG (c : Dev nD) : S2x4x2x512x512.Idx → Elt F .fp8e4m3 :=
  fun x => kvPay m ρ (org c (x 0) (x 1)) (x 0) (x 2) fun a => match a with | 0 => ⟨0, Nat.one_pos⟩ | 1 => ⟨0, Nat.one_pos⟩ | 2 => ⟨0, Nat.one_pos⟩ | 3 => x 3 | 4 => x 4

/-- Read through a slot's rectangle, that is the slot's payload. -/
theorem commG_emb (c : Dev nD) (d : Fin 2) (h : Fin 4) (k : Fin 2) (hb) (j : S1x1x1x512x512.Idx) :
    commG m ρ c ((Rect.unit (s := S2x4x2x512x512) ![d.val, h.val, k.val, 0, 0] S1x1x1x512x512.size hb).emb j) = kvPay m ρ (org c d h) d k j := by
  have e0 : (Rect.unit (s := S2x4x2x512x512) ![d.val, h.val, k.val, 0, 0] S1x1x1x512x512.size hb).emb j 0 = d :=
    Fin.ext (by show d.val + 1 * (j 0).val = d.val; have : (j 0).val < 1 := (j 0).isLt; omega)
  have e1 : (Rect.unit (s := S2x4x2x512x512) ![d.val, h.val, k.val, 0, 0] S1x1x1x512x512.size hb).emb j 1 = h :=
    Fin.ext (by show h.val + 1 * (j 1).val = h.val; have : (j 1).val < 1 := (j 1).isLt; omega)
  have e2 : (Rect.unit (s := S2x4x2x512x512) ![d.val, h.val, k.val, 0, 0] S1x1x1x512x512.size hb).emb j 2 = k :=
    Fin.ext (by show k.val + 1 * (j 2).val = k.val; have : (j 2).val < 1 := (j 2).isLt; omega)
  unfold commG
  rw [e0, e1, e2]
  refine congrArg _ (funext fun a => ?_)
  match a with
  | 0 => exact Fin.ext (by show 0 = (j 0).val; have : (j 0).val < 1 := (j 0).isLt; omega)
  | 1 => exact Fin.ext (by show 0 = (j 1).val; have : (j 1).val < 1 := (j 1).isLt; omega)
  | 2 => exact Fin.ext (by show 0 = (j 2).val; have : (j 2).val < 1 := (j 2).isLt; omega)
  | 3 => exact Fin.ext (by show 0 + 1 * (j 3).val = (j 3).val; omega)
  | 4 => exact Fin.ext (by show 0 + 1 * (j 4).val = (j 4).val; omega)

/-- A copy of batch `d` lands as the target's contents: slot `(d, h+1, k)` of `tgt c d`, written with what slot
    `(d, h, k)` of `c` reads, agrees with `commG (tgt c d)` on the slot. -/
theorem landed_eq (c : Dev nD) (d : Fin 2) (h : Fin 3) (k : Fin 2) (fd : S2x4x2x512x512.Idx → Elt F .fp8e4m3) :
    ∀ x ∈ (slotM d.val h.succ.val k.val (inbSlot d h.succ k)).view.set,
      (slotM d.val h.succ.val k.val (inbSlot d h.succ k)).view.write (Elt F) fd
        ((slotM d.val h.castSucc.val k.val (inbSlot d h.castSucc k)).view.read (Elt F) (commG m ρ c)) Finset.univ x
      = commG m ρ (tgt c d) x := by
  intro x hx
  obtain ⟨j, -, rfl⟩ := Finset.mem_map.mp hx
  have h1 := commG_emb m ρ c d h.castSucc k (inbSlot d h.castSucc k)
  have h2 := commG_emb m ρ (tgt c d) d h.succ k (inbSlot d h.succ k)
  rw [org_tgt] at h2
  have h3 := fun j => (h1 j).trans (h2 j).symm
  refine (View.write_emb_of_mem (v := (slotM d.val h.succ.val k.val (inbSlot d h.succ k)).view) (Val := Elt F) fd _ (Finset.mem_univ j)).trans ?_
  exact h3 _

/-! ## The cells -/

/-- The runtime's barrier semaphore of collective id 0. -/
abbrev barS : Sem sig := (SemArray.scalar (sig.barrier 0 rfl) : Sems sig S_).sem

/-- Copy `i`: its batch, hop and half. -/
def dOf (i : Fin 12) : Fin 2 := ⟨i.val % 2, Nat.mod_lt _ (by decide)⟩
def hOf (i : Fin 12) : Fin 3 := ⟨i.val / 4, by omega⟩
def kOf (i : Fin 12) : Fin 2 := ⟨i.val / 2 % 2, Nat.mod_lt _ (by decide)⟩

/-- Its two semaphores, of the arrays laid out by batch, half, hop. -/
def sendQ (i : Fin 12) : DmaSem sig := ⟨6 + (6 * (i.val % 2) + 3 * (i.val / 2 % 2) + i.val / 4), by show _ < 30; omega⟩
def recvQ (i : Fin 12) : DmaSem sig := ⟨18 + (6 * (i.val % 2) + 3 * (i.val / 2 % 2) + i.val / 4), by show _ < 30; omega⟩

abbrev barCell (c : Dev nD) : GSem nD τ sig := ((c : Thread nD τ), .reg barS)
abbrev sendCell (c : Dev nD) (i : Fin 12) : GSem nD τ sig := ((c : Thread nD τ), .dma (sendQ i))
abbrev recvCell (c : Dev nD) (i : Fin 12) : GSem nD τ sig := ((c : Thread nD τ), .dma (recvQ i))

/-- The semaphores of one device: the barrier, twelve sends, twelve receives. -/
abbrev KC : Type := Unit ⊕ (Fin 12 ⊕ Fin 12)
abbrev csem : KC → SemLoc sig
  | .inl _ => .reg barS
  | .inr (.inl i) => .dma (sendQ i)
  | .inr (.inr i) => .dma (recvQ i)
abbrev kcell (ck : Dev nD × KC) : GSem nD τ sig := ((ck.1 : Thread nD τ), csem ck.2)

/-- Which of them a semaphore is. -/
def kindOf : SemLoc sig → Option KC
  | .reg b => if b = barS then some (.inl ()) else none
  | .dma q =>
    if q.val < 6 then none
    else if q.val < 18 then some (.inr (.inl ⟨(4 * ((q.val - 6) % 3) + 2 * ((q.val - 6) / 3 % 2) + (q.val - 6) / 6) % 12, Nat.mod_lt _ (by decide)⟩))
    else some (.inr (.inr ⟨(4 * ((q.val - 18) % 3) + 2 * ((q.val - 18) / 3 % 2) + (q.val - 18) / 6) % 12, Nat.mod_lt _ (by decide)⟩))

theorem kindOf_csem : ∀ k : KC, kindOf (csem k) = some k := by decide
theorem csem_injective : Function.Injective csem := fun a b h => by
  have := congrArg kindOf h; rw [kindOf_csem, kindOf_csem] at this; exact Option.some.inj this
theorem kcell_injective : Function.Injective kcell := fun a b h =>
  Prod.ext (congrArg (fun g : GSem nD τ sig => g.1.1) h) (csem_injective (congrArg Prod.snd h))

/-- The credit of one slot's copy. -/
abbrev N : ℕ := (slotM 0 0 0 (inbSlot 0 0 0)).view.dmaCredit
theorem N_pos : 0 < N := View.dmaCredit_pos _ (by decide)

/-! ## The schedule -/

/-- Duty `d` of `c`'s barrier cell: the landing slots of batch `d` on the device `c` sends that batch to. -/
def barPay (c : Dev nD) (d : Fin 2) : sProp 𝕄 :=
  bigSep Finset.univ fun x : Fin 3 × Fin 2 => iprop(∃ f, slotPts (tgt c d) d x.1.succ x.2 fullShare f)
/-- The half share of the source slot of copy `i`. -/
def sendPay (c : Dev nD) (i : Fin 12) : sProp 𝕄 := slotPts c (dOf i) (hOf i).castSucc (kOf i) fullShare.left (commG m ρ c)
/-- The landed slot of copy `i`. -/
def recvPay (c : Dev nD) (i : Fin 12) : sProp 𝕄 := slotPts c (dOf i) (hOf i).succ (kOf i) fullShare (commG m ρ c)

/-- One round: the barrier cell's two duties of one unit, every send and receive cell's one duty of a slot's credit. -/
def Rd : Rounds.Schedule (GSem nD τ sig) (Fin 2) 𝕄 where
  duties g r := if r = 0 ∧ g.1.2 = .tc then (match kindOf g.2 with | none => ∅ | some (.inl _) => Finset.univ | some (.inr _) => {0}) else ∅
  unitless _ := False
  amount g _ _ := match kindOf g.2 with | some (.inl _) => 1 | _ => N
  payload g _ d := match kindOf g.2 with
    | none => iprop(emp)
    | some (.inl _) => barPay g.1.1 d
    | some (.inr (.inl i)) => sendPay m ρ g.1.1 i
    | some (.inr (.inr i)) => recvPay m ρ g.1.1 i
  amount_pos g _ _ _ := by
    rcases kindOf g.2 with _ | _ | _
    · exact N_pos
    · exact Nat.one_pos
    · exact N_pos

omit [FloatOps F] in
instance barPay_storable (c : Dev nD) (d : Fin 2) : BI.Storable (upEmb : UEmb _ 𝕄) (barPay (F := F) c d) := by unfold barPay; infer_instance

instance Rd_payload_storable (g : GSem nD τ sig) (r : ℕ) (d : Fin 2) : BI.Storable (upEmb : UEmb _ 𝕄) ((Rd (F := F) m ρ).payload g r d) := by
  show BI.Storable upEmb (match kindOf g.2 with
    | none => iprop(emp)
    | some (.inl _) => barPay g.1.1 d
    | some (.inr (.inl i)) => sendPay m ρ g.1.1 i
    | some (.inr (.inr i)) => recvPay m ρ g.1.1 i)
  unfold sendPay recvPay
  rcases kindOf g.2 with _ | _ | _ | _ <;> infer_instance

section Sched
variable (c : Dev nD)

theorem kind_bar : kindOf (.reg barS) = some (.inl ()) := kindOf_csem (.inl ())
theorem kind_send (i : Fin 12) : kindOf (.dma (sendQ i)) = some (.inr (.inl i)) := kindOf_csem (.inr (.inl i))
theorem kind_recv (i : Fin 12) : kindOf (.dma (recvQ i)) = some (.inr (.inr i)) := kindOf_csem (.inr (.inr i))

theorem duties_bar : (Rd (F := F) m ρ).duties (barCell c) 0 = Finset.univ := by dsimp only [Rd]; rw [kind_bar]; exact if_pos ⟨rfl, rfl⟩
theorem duties_send (i : Fin 12) : (Rd (F := F) m ρ).duties (sendCell c i) 0 = {0} := by dsimp only [Rd]; rw [kind_send]; exact if_pos ⟨rfl, rfl⟩
theorem duties_recv (i : Fin 12) : (Rd (F := F) m ρ).duties (recvCell c i) 0 = {0} := by dsimp only [Rd]; rw [kind_recv]; exact if_pos ⟨rfl, rfl⟩
theorem duties_later (g : GSem nD τ sig) : ∀ r, 1 ≤ r → (Rd (F := F) m ρ).duties g r = ∅ :=
  fun r hr => by dsimp only [Rd]; exact if_neg fun h => by omega

theorem amount_bar (d : Fin 2) : (Rd (F := F) m ρ).amount (barCell c) 0 d = 1 := by dsimp only [Rd]; rw [kind_bar]
theorem amount_send (i : Fin 12) (d : Fin 2) : (Rd (F := F) m ρ).amount (sendCell c i) 0 d = N := by dsimp only [Rd]; rw [kind_send]
theorem amount_recv (i : Fin 12) (d : Fin 2) : (Rd (F := F) m ρ).amount (recvCell c i) 0 d = N := by dsimp only [Rd]; rw [kind_recv]

theorem expect_bar : (Rd (F := F) m ρ).expect (barCell c) 0 = 2 := by
  unfold Schedule.expect Schedule.amountOf
  rw [duties_bar, Finset.sum_congr rfl fun d _ => amount_bar m ρ c d, Finset.sum_const, Finset.card_univ, Fintype.card_fin, smul_eq_mul]
theorem expect_send (i : Fin 12) : (Rd (F := F) m ρ).expect (sendCell c i) 0 = N := by
  unfold Schedule.expect Schedule.amountOf; rw [duties_send, Finset.sum_singleton, amount_send]
theorem expect_recv (i : Fin 12) : (Rd (F := F) m ρ).expect (recvCell c i) 0 = N := by
  unfold Schedule.expect Schedule.amountOf; rw [duties_recv, Finset.sum_singleton, amount_recv]

theorem payload_bar (d : Fin 2) : (Rd (F := F) m ρ).payload (barCell c) 0 d = barPay c d := by dsimp only [Rd]; rw [kind_bar]
theorem payload_send (i : Fin 12) (d : Fin 2) : (Rd (F := F) m ρ).payload (sendCell c i) 0 d = sendPay m ρ c i := by dsimp only [Rd]; rw [kind_send]
theorem payload_recv (i : Fin 12) (d : Fin 2) : (Rd (F := F) m ρ).payload (recvCell c i) 0 d = recvPay m ρ c i := by dsimp only [Rd]; rw [kind_recv]

theorem rest_bar : bigSep ((Rd (F := F) m ρ).duties (barCell c) 0 \ ∅) (fun d => (Rd (F := F) m ρ).payload (barCell c) 0 d) = iprop(barPay c 0 ∗ barPay c 1) := by
  rw [Finset.sdiff_empty, duties_bar, bigSep_univ_eq_bigSepL [0, 1] (by decide) (by decide), bigSepL_cons_cons, bigSepL_singleton, payload_bar, payload_bar]
  rfl
theorem rest_send (i : Fin 12) :
    bigSep ((Rd (F := F) m ρ).duties (sendCell c i) 0 \ ∅) (fun d => (Rd (F := F) m ρ).payload (sendCell c i) 0 d) = sendPay m ρ c i := by
  rw [Finset.sdiff_empty, duties_send, bigSep_singleton, payload_send]
theorem rest_recv (i : Fin 12) :
    bigSep ((Rd (F := F) m ρ).duties (recvCell c i) 0 \ ∅) (fun d => (Rd (F := F) m ρ).payload (recvCell c i) 0 d) = recvPay m ρ c i := by
  rw [Finset.sdiff_empty, duties_recv, bigSep_singleton, payload_recv]

end Sched

/-! ## What each device owes at launch; the levels -/

/-- What device `c` still owes the receive cells once `n` copies have started. -/
def owedFrom (c : Dev nD) (n : ℕ) : CellTallies nD τ sig Unit :=
  ∑ i ∈ Finset.univ.filter (fun i : Fin 12 => n ≤ i.val), tallyAt (recvCell (tgt c (dOf i)) i) () N

/-- Starting copy `i` pays its tally. -/
theorem owedFrom_step (c : Dev nD) (i : Fin 12) :
    owedFrom c i.val = owedFrom c (i.val + 1) + tallyAt (recvCell (tgt c (dOf i)) i) () N := by
  unfold owedFrom
  have h : (Finset.univ.filter fun j : Fin 12 => i.val ≤ j.val) = insert i (Finset.univ.filter fun j : Fin 12 => i.val + 1 ≤ j.val) := by
    revert i; decide
  rw [h, Finset.sum_insert (by simp), add_comm]

theorem owedFrom_all (c : Dev nD) : owedFrom c 12 = 0 := by
  unfold owedFrom
  have h : (Finset.univ.filter fun j : Fin 12 => 12 ≤ j.val) = ∅ := by decide
  rw [h, Finset.sum_empty]

/-- With the two barrier units, in the order the signals pay them: first the left neighbour's, then the right one's. -/
def owedSig (c : Dev nD) : CellTallies nD τ sig Unit := owedFrom c 0 + tallyAt (barCell (nxt c)) () 1
def O₀ (c : Dev nD) : CellTallies nD τ sig Unit := owedSig c + tallyAt (barCell (prv c)) () 1

def L (g : GSem nD τ sig) : Finset Unit := if g.1.2 = .tc then {()} else ∅
/-- The barrier cells at 1, the receive cell of copy `i` at `2 + i / 2` (its hop and half), everything else at 0. -/
def lv (g : GSem nD τ sig) (_ : Unit) : ℕ :=
  match kindOf g.2 with | some (.inl _) => 1 | some (.inr (.inr i)) => 2 + i.val / 2 | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by unfold lv; rw [kind_bar]
theorem lv_recv (c : Dev nD) (i : Fin 12) (u : Unit) : lv (recvCell c i) u = 2 + i.val / 2 := by unfold lv; rw [kind_recv]
theorem lv_send (c : Dev nD) (i : Fin 12) (u : Unit) : lv (sendCell c i) u = 0 := by unfold lv; rw [kind_send]

theorem owedFrom_pos {c : Dev nD} {n : ℕ} {g : GSem nD τ sig} {u : Unit} (h : 0 < owedFrom c n g u) :
    ∃ i : Fin 12, n ≤ i.val ∧ g = recvCell (tgt c (dOf i)) i := by
  unfold owedFrom at h
  rw [Finset.sum_apply, Finsupp.finsetSum_apply] at h
  obtain ⟨i, hi, hpos⟩ := Finset.exists_ne_zero_of_sum_ne_zero (Nat.pos_iff_ne_zero.mp h)
  refine ⟨i, (Finset.mem_filter.mp hi).2, ?_⟩
  rw [tallyAt_apply] at hpos
  by_contra hne
  exact hpos (if_neg fun h' => hne h'.1)

theorem O₀_pos {c : Dev nD} {g : GSem nD τ sig} {u : Unit} (h : 0 < O₀ c g u) : (∃ c', g = barCell c') ∨ ∃ c' i, g = recvCell c' i := by
  unfold O₀ owedSig at h
  rw [Pi.add_apply, Finsupp.add_apply, Pi.add_apply, Finsupp.add_apply, tallyAt_apply, tallyAt_apply] at h
  by_cases h1 : g = barCell (prv c)
  · exact .inl ⟨_, h1⟩
  by_cases h2 : g = barCell (nxt c)
  · exact .inl ⟨_, h2⟩
  rw [if_neg (fun h' => h2 h'.1), if_neg (fun h' => h1 h'.1)] at h
  obtain ⟨i, -, hi⟩ := owedFrom_pos (c := c) (n := 0) (g := g) (u := u) (by omega)
  exact .inr ⟨_, i, hi⟩

omit [FloatOps F] in
/-- A wait on a cell of level at most `b` while every copy still owed has a receive cell above `b`. -/
theorem mayWait_owed (c : Dev nD) (sm : SemLoc sig) (n b : ℕ) (hb : lv ((c : Thread nD τ), sm) () ≤ b)
    (hn : ∀ i : Fin 12, n ≤ i.val → b < 2 + i.val / 2) :
    (levAts L lv : sProp 𝕄) ⊢ MayWait (c : Thread nD τ) sm () (owedFrom c n) :=
  MayOwe.of_cut (L := L) (lev := lv) b (fun p hp => by rw [Finset.mem_singleton.mp hp, L_tc]; exact Finset.mem_singleton_self _)
    (fun g u hg => by obtain ⟨i, -, rfl⟩ := owedFrom_pos hg; rw [L_tc]; exact Finset.mem_singleton_self _)
    (fun p hp => by rw [Finset.mem_singleton.mp hp]; exact hb)
    (fun g u hg => by obtain ⟨i, hi, rfl⟩ := owedFrom_pos hg; rw [lv_recv]; exact hn i hi)

omit [FloatOps F] in
/-- The staging waits, at launch's dues or none. -/
theorem mayWait_stage (c : Dev nD) (q : DmaSem sig) (hq : kindOf (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨c', rfl⟩ | ⟨c', i, rfl⟩ <;> exact Finset.mem_singleton_self _)
      (fun p hp => by rw [Finset.mem_singleton.mp hp]; dsimp only [lv]; rw [hq])
      (fun g u hg => by
        rcases O₀_pos hg with ⟨c', rfl⟩ | ⟨c', i, rfl⟩
        · rw [lv_bar]; decide
        · rw [lv_recv]; omega)
  · rw [MayWait_zero]; iintro -; iempintro

end Cert.Attn

end
-- ==== Proof.Steps.lean ====
/-
# 01_k — `Steps`: one lemma per kind of remote step

Each lemma speaks of device `c` at a symbolic place in the ring and of copy `i`, with the slot offsets given as the
numbers the program prints (equal to the copy's batch, hop and half).
-/
module

public import proofs.«01_k».proof.Proof.Protocol

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## The shared records -/

/-- The invariants of all the cells, at the names the launch gave them, and that each is at its first round. -/
def records (K : Dev nD × KC → ℕ) : sProp 𝕄 :=
  iprop((bigSep Finset.univ fun ck : Dev nD × KC => cellInv ER (Rd m ρ) (K ck) (kcell ck))
    ∗ bigSep Finset.univ fun ck : Dev nD × KC => reached ER (kcell ck) 0)

instance records_persistent (K : Dev nD × KC → ℕ) : BI.Persistent (records m ρ K) := by unfold records; infer_instance

theorem inv_at (K : Dev nD × KC → ℕ) (ck : Dev nD × KC) : records m ρ K ⊢ cellInv ER (Rd m ρ) (K ck) (kcell ck) := by
  unfold records
  iintro ⟨#HI, -⟩
  iapply (show (bigSep Finset.univ fun ck : Dev nD × KC => (cellInv ER (Rd m ρ) (K ck) (kcell ck) : sProp 𝕄)) ⊢ cellInv ER (Rd m ρ) (K ck) (kcell ck)
    from bigSep_elim (Finset.mem_univ ck)); iexact HI
theorem reached_at (K : Dev nD × KC → ℕ) (ck : Dev nD × KC) : records m ρ K ⊢ reached ER (kcell ck) 0 := by
  unfold records
  iintro ⟨-, #HR⟩
  iapply (show (bigSep Finset.univ fun ck : Dev nD × KC => (reached ER (kcell ck) 0 : sProp 𝕄)) ⊢ reached ER (kcell ck) 0
    from bigSep_elim (Finset.mem_univ ck)); iexact HR

variable (K : Dev nD × KC → ℕ)

/-! ## The copies -/

/-- A slot as the body's loads and stores name it: a box of the whole scratch buffer. -/
abbrev slotR (c : Dev nD) (d h k : ℕ) (hb : ∀ a, (![d, h, k, 0, 0] : Fin 5 → ℕ) a + S1x1x1x512x512.size a ≤ S2x4x2x512x512.size a)
    (q : PosShare TreeShare) (f : Buf (Elt F) ((c : Thread nD τ).loc cc0_scratch0)) : sProp 𝕄 :=
  commM.view.loc (c : Thread nD τ) ↦[commM.view.setOn (Rect.unit (s := S2x4x2x512x512) ![d, h, k, 0, 0] S1x1x1x512x512.size hb).set]{q} f

omit [FloatOps F] in
theorem slotR_eq (c : Dev nD) (d h k : ℕ) (hb) (q : PosShare TreeShare) (f : Buf (Elt F) ((c : Thread nD τ).loc cc0_scratch0)) :
    (slotR c d h k hb q f : sProp 𝕄) = ((slotM d h k hb).view.loc (c : Thread nD τ) ↦[(slotM d h k hb).view.set]{q} f) := by
  have h1 : (slotM d h k hb).view.set = (Rect.unit (s := S2x4x2x512x512) ![d, h, k, 0, 0] S1x1x1x512x512.size hb).set :=
    (View.set_reshape _ _).trans (View.set_slice_whole _ _)
  have h2 : commM.view.setOn (Rect.unit (s := S2x4x2x512x512) ![d, h, k, 0, 0] S1x1x1x512x512.size hb).set
      = (Rect.unit (s := S2x4x2x512x512) ![d, h, k, 0, 0] S1x1x1x512x512.size hb).set := by
    ext x; exact View.mem_setOn _
  unfold slotR
  rw [h1, h2]

omit [FloatOps F] in
theorem slotPts_eq (c : Dev nD) (d : Fin 2) (h : Fin 4) (k : Fin 2) (q) (f : Buf (Elt F) ((c : Thread nD τ).loc cc0_scratch0)) :
    (slotPts c d h k q f : sProp 𝕄) = slotR c d.val h.val k.val (inbSlot d h k) q f := (slotR_eq ..).symm

/-- The same, put aside: the run of the body looks through no definition, so it sees only the slot it is about to read. -/
def slotH (c : Dev nD) (d h k : ℕ) (hb : ∀ a, (![d, h, k, 0, 0] : Fin 5 → ℕ) a + S1x1x1x512x512.size a ≤ S2x4x2x512x512.size a)
    (q : PosShare TreeShare) (f : Buf (Elt F) ((c : Thread nD τ).loc cc0_scratch0)) : sProp 𝕄 := slotR c d h k hb q f

omit [FloatOps F] in
theorem show_slot {c : Dev nD} {d h k : ℕ} {hb} {q : PosShare TreeShare} {f : Buf (Elt F) ((c : Thread nD τ).loc cc0_scratch0)} :
    (slotH c d h k hb q f : sProp 𝕄) ⊢ slotR c d h k hb q f := Entails.refl _
omit [FloatOps F] in
theorem hide_slot {c : Dev nD} {d h k : ℕ} {hb} {q : PosShare TreeShare} {f : Buf (Elt F) ((c : Thread nD τ).loc cc0_scratch0)} :
    (slotR c d h k hb q f : sProp 𝕄) ⊢ slotH c d h k hb q f := Entails.refl _

/-! ## The slots a device fills itself -/

omit [FloatOps F] in
/-- A load of batch `d` of a staged key block; -/
theorem load_kbatch {n : ℕ} (d : Fin 2) (hn : n = d.val) (hb) (X : (cc0_stg2_0 : Ref sig .tc).ty.Contents (Elt F)) :
    View.readAt (Elt F) (Memref.whole cc0_stg2_0).view (Rect.unit (s := S2x512x8x64) ![n, 0, 0, 0] S1x512x8x64.size hb).toLoadRect X = batchOf d X := by
  subst hn
  funext j
  show X _ = X _
  refine congrArg X (funext fun a => ?_)
  match a with
  | 0 => exact Fin.ext (by show d.val + 1 * (j 0).val = d.val; have : (j 0).val < 1 := (j 0).isLt; omega)
  | 1 => exact Fin.ext (by show 0 + 1 * (j 1).val = (j 1).val; omega)
  | 2 => exact Fin.ext (by show 0 + 1 * (j 2).val = (j 2).val; omega)
  | 3 => exact Fin.ext (by show 0 + 1 * (j 3).val = (j 3).val; omega)

omit [FloatOps F] in
/-- and of a staged value block. -/
theorem load_vbatch {n : ℕ} (d : Fin 2) (hn : n = d.val) (hb) (X : (cc0_stg3_0 : Ref sig .tc).ty.Contents (Elt F)) :
    View.readAt (Elt F) (Memref.whole cc0_stg3_0).view (Rect.unit (s := S2x512x8x64) ![n, 0, 0, 0] S1x512x8x64.size hb).toLoadRect X = batchOf d X :=
  load_kbatch d hn hb X

/-- A slot of hop 0 with the device's own narrowed keys or values stored holds the contents everything agrees on. -/
theorem stored (c : Dev nD) {nd nk : ℕ} (d k : Fin 2) (hd : nd = d.val) (hk : nk = k.val) (hb) (q : PosShare TreeShare) (f0 : Buf (Elt F) ((c : Thread nD τ).loc cc0_scratch0))
    (w : S1x1x1x512x512.Idx → Elt F .fp8e4m3) (hw : w = kvPay m ρ c d k) :
    (slotR c nd 0 nk hb q (commM.view.writes (Elt F) f0 [⟨Rect.unit (s := S2x4x2x512x512) ![nd, 0, nk, 0, 0] S1x1x1x512x512.size hb, w⟩]) : sProp 𝕄)
      = slotH c nd 0 nk hb q (commG m ρ c) := by
  subst hd hk hw
  unfold slotH
  refine pointsTo_congr fun x hx => ?_
  obtain ⟨y, hy, rfl⟩ := Finset.mem_map.mp hx
  rw [← Rect.map_emb_univ] at hy
  obtain ⟨j, -, rfl⟩ := Finset.mem_map.mp hy
  have h := commG_emb m ρ c d 0 k hb j
  rw [org_zero] at h
  refine (View.write_emb_of_mem (v := commM.view.slice (Rect.unit (s := S2x4x2x512x512) ![d.val, 0, k.val, 0, 0] S1x1x1x512x512.size hb))
    (Val := Elt F) f0 (kvPay m ρ c d k) (Finset.mem_univ j)).trans ?_
  exact h.symm

theorem amount_slot (d h k : ℕ) (hb) (sR : DmaSem sig) : (slotM d h k hb).view.amount (.dma sR) = N := rfl

omit [FloatOps F] in
theorem nxt_dev {c : Dev nD} {x : ℕ} {hx : x < nD} (h : x = (c.val + 1) % 4) : (⟨x, hx⟩ : Dev nD) = nxt c := Fin.ext h
omit [FloatOps F] in
theorem prv_dev {c : Dev nD} {x : ℕ} {hx : x < nD} (h : x = (c.val + 3) % 4) : (⟨x, hx⟩ : Dev nD) = prv c := Fin.ext h

/-- The first signal, to the left neighbour: `c`'s landing slots of batch 0 go with it. -/
theorem signal_prv (c : Dev nD) {n : Dev nD} (hn : n = prv c) {k' : ℕ} (hk : k' = 1) (W : Waits sig Unit)
    {α : Type} {Q : α → sProp 𝕄} {kk : PUnit → Prog (TpuEff nD τ sig (Elt F) Λ₀ .tc) α} :
    records m ρ K ⊢ iprop(owes (c : Thread nD τ) (O₀ c) W -∗ dutyTok ER (barCell (prv c)) 0 0 -∗ barPay (prv c) 0
      -∗ (owes (c : Thread nD τ) (owedSig c) W -∗ wp frame (wpE (defs₀ (F := F)) 𝒱₀ (c : Thread nD τ) none) Set.univ (kk ⟨⟩) Q)
      -∗ wp frame (wpE (defs₀ (F := F)) 𝒱₀ (c : Thread nD τ) none) Set.univ (.op (.semSignal (n : Thread nD τ) barS k') kk) Q) := by
  subst hn hk
  iintro #HR HO Ht Hp Hk
  iapply (Rounds.wp_signal 𝒱₀ ER (Rd m ρ) (c : Thread nD τ) none (dst := (prv c : Thread nD τ)) (κ := K (prv c, .inl ()))
    (d := 0) (by rw [duties_bar]; exact Finset.mem_univ _) (amount_bar m ρ (prv c) 0) () (owedSig c) rfl) $$ [HO Ht Hp]
  · isplitr; · iapply (inv_at m ρ K (prv c, .inl ())); iexact HR
    isplitl [HO]; · iexact HO
    isplitl [Ht]; · iexact Ht
    isplitl [Hp]; · rw [payload_bar]; iexact Hp
    iapply (reached_at m ρ K (prv c, .inl ())); iexact HR
  iexact Hk

/-- The second, to the right neighbour, with the landing slots of batch 1. -/
theorem signal_nxt (c : Dev nD) {n : Dev nD} (hn : n = nxt c) {k' : ℕ} (hk : k' = 1) (W : Waits sig Unit)
    {α : Type} {Q : α → sProp 𝕄} {kk : PUnit → Prog (TpuEff nD τ sig (Elt F) Λ₀ .tc) α} :
    records m ρ K ⊢ iprop(owes (c : Thread nD τ) (owedSig c) W -∗ dutyTok ER (barCell (nxt c)) 0 1 -∗ barPay (nxt c) 1
      -∗ (owes (c : Thread nD τ) (owedFrom c 0) W -∗ wp frame (wpE (defs₀ (F := F)) 𝒱₀ (c : Thread nD τ) none) Set.univ (kk ⟨⟩) Q)
      -∗ wp frame (wpE (defs₀ (F := F)) 𝒱₀ (c : Thread nD τ) none) Set.univ (.op (.semSignal (n : Thread nD τ) barS k') kk) Q) := by
  subst hn hk
  iintro #HR HO Ht Hp Hk
  iapply (Rounds.wp_signal 𝒱₀ ER (Rd m ρ) (c : Thread nD τ) none (dst := (nxt c : Thread nD τ)) (κ := K (nxt c, .inl ()))
    (d := 1) (by rw [duties_bar]; exact Finset.mem_univ _) (amount_bar m ρ (nxt c) 1) () (owedFrom c 0) rfl) $$ [HO Ht Hp]
  · isplitr; · iapply (inv_at m ρ K (nxt c, .inl ())); iexact HR
    isplitl [HO]; · iexact HO
    isplitl [Ht]; · iexact Ht
    isplitl [Hp]; · rw [payload_bar]; iexact Hp
    iapply (reached_at m ρ K (nxt c, .inl ())); iexact HR
  iexact Hk

/-- The twelve copies' resources, one after the other. -/
abbrev chain (P : Fin 12 → sProp 𝕄) : sProp 𝕄 :=
  iprop(P 0 ∗ P 1 ∗ P 2 ∗ P 3 ∗ P 4 ∗ P 5 ∗ P 6 ∗ P 7 ∗ P 8 ∗ P 9 ∗ P 10 ∗ P 11)

omit [FloatOps F] in
theorem chain_eq (P : Fin 12 → sProp 𝕄) : bigSep Finset.univ P = chain P := by
  rw [bigSep_univ_eq_bigSepL [0, 1, 2, 3, 4, 5, 6, 7, 8, 9, 10, 11] (by decide) (by decide)]
  rfl

/-- The landing slot of copy `i`, on the device it goes to. -/
def landing (c : Dev nD) (i : Fin 12) : sProp 𝕄 := iprop(∃ f, slotPts (tgt c (dOf i)) (dOf i) (hOf i).succ (kOf i) fullShare f)

omit [FloatOps F] in
/-- What the neighbours' signals bring is the twelve landing slots. -/
theorem landings (c : Dev nD) : (iprop(barPay c 0 ∗ barPay c 1) : sProp 𝕄) ⊢ chain (landing c) := by
  let X : Fin 2 → Fin 3 → Fin 2 → sProp 𝕄 := fun d h k => iprop(∃ f, slotPts (tgt c d) d h.succ k fullShare f)
  have e : ∀ d : Fin 2, (barPay c d : sProp 𝕄) = iprop(X d 0 0 ∗ X d 0 1 ∗ X d 1 0 ∗ X d 1 1 ∗ X d 2 0 ∗ X d 2 1) := fun d => by
    unfold barPay
    rw [bigSep_univ_eq_bigSepL [(0, 0), (0, 1), (1, 0), (1, 1), (2, 0), (2, 1)] (by decide) (by decide)]
    rfl
  have g : chain (landing c) = iprop(X 0 0 0 ∗ X 1 0 0 ∗ X 0 0 1 ∗ X 1 0 1 ∗ X 0 1 0 ∗ X 1 1 0 ∗ X 0 1 1 ∗ X 1 1 1 ∗ X 0 2 0 ∗ X 1 2 0
      ∗ X 0 2 1 ∗ X 1 2 1) := rfl
  rw [e, e, g]
  iintro ⟨⟨A0, A1, A2, A3, A4, A5⟩, B0, B1, B2, B3, B4, B5⟩
  isplitl [A0]; · iexact A0
  isplitl [B0]; · iexact B0
  isplitl [A1]; · iexact A1
  isplitl [B1]; · iexact B1
  isplitl [A2]; · iexact A2
  isplitl [B2]; · iexact B2
  isplitl [A3]; · iexact A3
  isplitl [B3]; · iexact B3
  isplitl [A4]; · iexact A4
  isplitl [B4]; · iexact B4
  isplitl [A5]; · iexact A5
  iexact B5

/-- Both signals received: the barrier cell closes, the landing slots of the devices `c` sends to are `c`'s to fill. -/
theorem barrier_step (c : Dev nD) {k' : ℕ} (hk : k' = 2) (W : Waits sig Unit)
    {α : Type} {Q : α → sProp 𝕄} {kk : PUnit → Prog (TpuEff nD τ sig (Elt F) Λ₀ .tc) α} :
    records m ρ K ⊢ iprop(levAts L lv -∗ cred (tallyAt (barCell c) () 2) -∗ owes (c : Thread nD τ) (owedFrom c 0) W -∗ atPos ER (barCell c) 0 ∅ 0
      -∗ ((owes (c : Thread nD τ) (owedFrom c 0) (insert (SemLoc.reg barS, ()) W) ∗ semVal (barCell c) 0 ∗ chain (landing c))
          -∗ wp frame (wpE (defs₀ (F := F)) 𝒱₀ (c : Thread nD τ) none) Set.univ (kk ⟨⟩) Q)
      -∗ wp frame (wpE (defs₀ (F := F)) 𝒱₀ (c : Thread nD τ) none) Set.univ (.op (.semWait barS k') kk) Q) := by
  subst hk
  iintro #HR #Hlev Hc HO Hat Hk
  iapply (Rounds.wp_wait_rest_token 𝒱₀ ER (Rd m ρ) (c : Thread nD τ) none (κ := K (c, .inl ()))
    (wpE_semWait_eq 𝒱₀ (c : Thread nD τ) none Set.univ) (Set.mem_univ _) () (O := owedFrom c 0) (W := W) (R := 0) (m := 0) (T := ∅)
    (by rw [expect_bar])) $$ [Hc HO Hat]
  · isplitr; · iapply (inv_at m ρ K (c, .inl ())); iexact HR
    isplitl [Hc]; · iexact Hc
    isplitl [HO]; · iexact HO
    isplitr
    · iapply (mayWait_owed c (.reg barS) 0 1 (by rw [lv_bar]) (fun i _ => by omega)); iexact Hlev
    iexact Hat
  iintro ⟨HO, Hat, -, Hpay⟩
  ihave Hp := (Entails.of_eq (rest_bar m ρ c)) $$ Hpay
  imod (Rounds.cell_close ER (Rd m ρ) (Set.mem_univ (K (c, .inl ()))) (fun h => h) (R := 0 + 1) (duties_later m ρ (barCell c))) $$ [Hat] with Hz
  · isplitr; · iapply (inv_at m ρ K (c, .inl ())); iexact HR
    iexact Hat
  iapply Hk
  isplitl [HO]; · iexact HO
  isplitl [Hz]; · iexact Hz
  iapply (landings c); iexact Hp

/-- Starting copy `i`: half the source slot goes with it, the other half stays; the landing slot on the target is spent. -/
theorem send_step (c : Dev nD) (i : Fin 12) {n : Dev nD} (hn : n = tgt c (dOf i)) {d h h' k a a' : ℕ}
    (hd : d = i.val % 2) (hh : h = i.val / 4) (hh' : h' = i.val / 4 + 1) (hk : k = i.val / 2 % 2) (ha : a = i.val) (ha' : a' = i.val + 1) {hb hb'}
    {sS sR : DmaSem sig} (hS : sS = sendQ i) (hR : sR = recvQ i)
    {hsc : (slotM d h' k hb').view.ref.isScScratch = false}
    {hsrc : (slotM d h k hb).view.WordExact} {hdst : (slotM d h' k hb').view.WordExact}
    {hsem : DmaTarget.Typed .vmem (.dma sR) (.remote (Dev.tc n : Thread nD τ) (slotM d h' k hb') (.dma sS) hsc)}
    {α : Type} {Q : α → sProp 𝕄} {kk : PUnit → Prog (TpuEff nD τ sig (Elt F) Λ₀ .tc) α} (W : Waits sig Unit) :
    records m ρ K
      ⊢ iprop(slotH c d h k hb fullShare (commG m ρ c) -∗
        landing c i -∗
        owes (c : Thread nD τ) (owedFrom c a) W -∗
        dutyTok ER (recvCell (tgt c (dOf i)) i) 0 0 -∗
        dutyTok ER (sendCell c i) 0 0 -∗
        ((cred (tallyAt (sendCell c i) () N) ∗ owes (c : Thread nD τ) (owedFrom c a') W
            ∗ slotH c d h k hb fullShare.right (commG m ρ c))
          -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (slotM d h k hb) (.remote (Dev.tc n : Thread nD τ) (slotM d h' k hb') (.dma sS) hsc) (.dma sR) hsrc hdst hsem) kk) Q) := by
  subst hn ha ha' hd hh hh' hk hS hR
  simp only [slotH, slotR_eq]
  unfold landing
  iintro #HR Hsrc ⟨%fd, Hdst⟩ HO HtR HtS Hk
  ihave Hs := (pointsTo_share (PosShare.mem_left_op_right fullShare)).1 $$ Hsrc
  icases Hs with ⟨Hl, Hr⟩
  unfold slotPts
  iapply (Rounds.wp_send_pointsTo 𝒱₀ ER (Rd m ρ) (c : Thread nD τ) none (κ₁ := K (c, .inr (.inl i))) (κ₂ := K (tgt c (dOf i), .inr (.inr i)))
    (r₁ := 0) (r₂ := 0) (d₁ := 0) (d₂ := 0) (fd := fd) (q := fullShare.left) (fs := commG m ρ c)
    (by rw [duties_send]; exact Finset.mem_singleton_self _) (by rw [duties_recv]; exact Finset.mem_singleton_self _)
    () () N (amount_slot _ _ _ _ _) (amount_send m ρ c i 0) (amount_recv m ρ (tgt c (dOf i)) i 0) (owedFrom c (i.val + 1)) (owedFrom_step c i) (W := W)
    (by rw [payload_send]; unfold sendPay slotPts; exact BI.Entails.refl _)
    (by
      rw [payload_recv]; unfold recvPay slotPts
      exact Entails.of_eq (pointsTo_congr (landed_eq m ρ c (dOf i) (hOf i) (kOf i) fd)))) $$ [Hl Hdst HO HtR HtS]
  · isplitr; · iapply (inv_at m ρ K (c, .inr (.inl i))); iexact HR
    isplitr; · iapply (inv_at m ρ K (tgt c (dOf i), .inr (.inr i))); iexact HR
    isplitl [Hl]; · iexact Hl
    isplitl [Hdst]; · iexact Hdst
    isplitl [HO]; · iexact HO
    isplitl [HtS]; · iexact HtS
    isplitr; · iapply (reached_at m ρ K (c, .inr (.inl i))); iexact HR
    isplitl [HtR]; · iexact HtR
    iapply (reached_at m ρ K (tgt c (dOf i), .inr (.inr i))); iexact HR
  iintro ⟨Hc, HO⟩
  iapply Hk
  isplitl [Hc]; · iexact Hc
  isplitl [HO]; · iexact HO
  iexact Hr

/-- Every wait on a copy is for one slot's credit. -/
theorem wait_credit (c : Dev nD) (sem : DmaSem sig) (d₁ h₁ k₁ d₂ h₂ k₂ : ℕ) {hb₁ hb₂} (hsrc : (slotM d₁ h₁ k₁ hb₁).view.WordExact)
    {hdst : (slotM d₂ h₂ k₂ hb₂).view.WordExact} (Kt : PUnit → sProp 𝕄) :
    wpE (defs₀ (F := F)) 𝒱₀ (c : Thread nD τ) none Set.univ (.waitDma2 sem (slotM d₁ h₁ k₁ hb₁) (slotM d₂ h₂ k₂ hb₂) hsrc hdst) Kt
      = waitSpec (c : Thread nD τ) Set.univ (.dma sem) N Kt := wpE_waitDma2_eq 𝒱₀ (c : Thread nD τ) none Set.univ Kt

/-- Waiting for copy `i` to have left: the lent half comes back and joins the kept one, the send cell closes. -/
theorem sent_step (c : Dev nD) (i : Fin 12) {d h k : ℕ} (hd : d = i.val % 2) (hh : h = i.val / 4) (hk : k = i.val / 2 % 2) {hb}
    {sS : DmaSem sig} (hS : sS = sendQ i) (n : ℕ) (hn : ∀ j : Fin 12, n ≤ j.val → 0 < 2 + j.val / 2)
    {d₁ h₁ k₁ d₂ h₂ k₂ : ℕ} {hb₁ hb₂} {hsrc : (slotM d₁ h₁ k₁ hb₁).view.WordExact} {hdst : (slotM d₂ h₂ k₂ hb₂).view.WordExact}
    {α : Type} {Q : α → sProp 𝕄} {kk : PUnit → Prog (TpuEff nD τ sig (Elt F) Λ₀ .tc) α} (W : Waits sig Unit) :
    records m ρ K
      ⊢ iprop(levAts L lv -∗
        cred (tallyAt (sendCell c i) () N) -∗
        owes (c : Thread nD τ) (owedFrom c n) W -∗
        atPos ER (sendCell c i) 0 ∅ 0 -∗
        slotH c d h k hb fullShare.right (commG m ρ c) -∗
        ((owes (c : Thread nD τ) (owedFrom c n) (insert (SemLoc.dma sS, ()) W) ∗ semVal (sendCell c i) 0
            ∗ slotH c d h k hb fullShare (commG m ρ c))
          -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sS (slotM d₁ h₁ k₁ hb₁) (slotM d₂ h₂ k₂ hb₂) hsrc hdst) kk) Q) := by
  subst hd hh hk hS
  simp only [slotH, slotR_eq]
  iintro #HR #Hlev Hc HO Hat Hr Hk
  iapply (Rounds.wp_wait_rest_token 𝒱₀ ER (Rd m ρ) (c : Thread nD τ) none (κ := K (c, .inr (.inl i))) (wait_credit c _ _ _ _ _ _ _ _) (Set.mem_univ _) ()
    (O := owedFrom c n) (W := W) (R := 0) (m := 0) (T := ∅) (by rw [Nat.zero_add, expect_send])) $$ [Hc HO Hat]
  · isplitr; · iapply (inv_at m ρ K (c, .inr (.inl i))); iexact HR
    isplitl [Hc]; · iexact Hc
    isplitl [HO]; · iexact HO
    isplitr
    · iapply (mayWait_owed c (.dma (sendQ i)) n 0 (by rw [lv_send]) hn); iexact Hlev
    iexact Hat
  iintro ⟨HO, Hat, -, Hpay⟩
  ihave Hl := (Entails.of_eq (rest_send m ρ c i)) $$ Hpay
  imod (Rounds.cell_close ER (Rd m ρ) (Set.mem_univ (K (c, .inr (.inl i)))) (fun h => h) (R := 0 + 1) (duties_later m ρ (sendCell c i))) $$ [Hat] with Hz
  · isplitr; · iapply (inv_at m ρ K (c, .inr (.inl i))); iexact HR
    iexact Hat
  unfold sendPay slotPts
  iapply Hk
  isplitl [HO]; · iexact HO
  isplitl [Hz]; · iexact Hz
  iapply (pointsTo_share (PosShare.mem_left_op_right fullShare)).2
  isplitl [Hl]; · iexact Hl
  iexact Hr

/-- Waiting for copy `i` to have landed: the landed slot, the receive cell closes. -/
theorem landed_step (c : Dev nD) (i : Fin 12) {d h' k : ℕ} (hd : d = i.val % 2) (hh' : h' = i.val / 4 + 1) (hk : k = i.val / 2 % 2) {hb}
    {sR : DmaSem sig} (hR : sR = recvQ i) (n : ℕ) (hn : ∀ j : Fin 12, n ≤ j.val → 2 + i.val / 2 < 2 + j.val / 2)
    {d₁ h₁ k₁ d₂ h₂ k₂ : ℕ} {hb₁ hb₂} {hsrc : (slotM d₁ h₁ k₁ hb₁).view.WordExact} {hdst : (slotM d₂ h₂ k₂ hb₂).view.WordExact}
    {α : Type} {Q : α → sProp 𝕄} {kk : PUnit → Prog (TpuEff nD τ sig (Elt F) Λ₀ .tc) α} (W : Waits sig Unit) :
    records m ρ K
      ⊢ iprop(levAts L lv -∗
        cred (tallyAt (recvCell c i) () N) -∗
        owes (c : Thread nD τ) (owedFrom c n) W -∗
        atPos ER (recvCell c i) 0 ∅ 0 -∗
        ((owes (c : Thread nD τ) (owedFrom c n) (insert (SemLoc.dma sR, ()) W) ∗ semVal (recvCell c i) 0
            ∗ slotH c d h' k hb fullShare (commG m ρ c))
          -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sR (slotM d₁ h₁ k₁ hb₁) (slotM d₂ h₂ k₂ hb₂) hsrc hdst) kk) Q) := by
  subst hd hh' hk hR
  simp only [slotH, slotR_eq]
  iintro #HR #Hlev Hc HO Hat Hk
  iapply (Rounds.wp_wait_rest_token 𝒱₀ ER (Rd m ρ) (c : Thread nD τ) none (κ := K (c, .inr (.inr i))) (wait_credit c _ _ _ _ _ _ _ _) (Set.mem_univ _) ()
    (O := owedFrom c n) (W := W) (R := 0) (m := 0) (T := ∅) (by rw [Nat.zero_add, expect_recv])) $$ [Hc HO Hat]
  · isplitr; · iapply (inv_at m ρ K (c, .inr (.inr i))); iexact HR
    isplitl [Hc]; · iexact Hc
    isplitl [HO]; · iexact HO
    isplitr
    · iapply (mayWait_owed c (.dma (recvQ i)) n (2 + i.val / 2) (by rw [lv_recv]) hn); iexact Hlev
    iexact Hat
  iintro ⟨HO, Hat, -, Hpay⟩
  ihave Hl := (Entails.of_eq (rest_recv m ρ c i)) $$ Hpay
  imod (Rounds.cell_close ER (Rd m ρ) (Set.mem_univ (K (c, .inr (.inr i)))) (fun h => h) (R := 0 + 1) (duties_later m ρ (recvCell c i))) $$ [Hat] with Hz
  · isplitr; · iapply (inv_at m ρ K (c, .inr (.inr i))); iexact HR
    iexact Hat
  unfold recvPay slotPts
  iapply Hk
  isplitl [HO]; · iexact HO
  isplitl [Hz]; · iexact Hz
  iexact Hl

end Cert.Attn

end
-- ==== Proof.Body.lean ====
module

public import proofs.«01_k».proof.Proof.Steps

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The body as the pipeline calls it. -/
abbrev bodyP : Prog (TpuEff nD τ sig (Elt F) Λ₀ .tc) PUnit :=
  cc0_body (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_stg5_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) cc0_scratch4 cc0_scratch5

/-- What the body starts from, besides the shared records: its six staging buffers, its own slots of hop 0, the other three scratch
    buffers, its landing slots (already sorted by the neighbour they go to), what it owes, and its cells' positions and duties. -/
def startP (c : Dev nD) (W : Waits sig Unit) (f0 f1 f2 f3 : Buf (Elt F) ((c : Thread nD τ).loc cc0_scratch0))
    (fa : Buf (Elt F) ((c : Thread nD τ).loc cc0_scratch1)) (fc : Buf (Elt F) ((c : Thread nD τ).loc cc0_scratch2))
    (fw : Buf (Elt F) ((c : Thread nD τ).loc cc0_scratch3)) (fo : Buf (Elt F) ((c : Thread nD τ).loc cc0_stg5_0)) : sProp 𝕄 :=
  iprop(((Memref.whole cc0_stg0_0).view.loc (c : Thread nD τ) ↦{fullShare} xstg m ρ c)
      ∗ ((Memref.whole cc0_stg1_0).view.loc (c : Thread nD τ) ↦{fullShare} wqstg m ρ c)
      ∗ ((Memref.whole cc0_stg2_0).view.loc (c : Thread nD τ) ↦{fullShare} kstg m ρ c)
      ∗ ((Memref.whole cc0_stg3_0).view.loc (c : Thread nD τ) ↦{fullShare} vstg m ρ c)
      ∗ ((Memref.whole cc0_stg4_0).view.loc (c : Thread nD τ) ↦{fullShare} wostg m ρ c)
      ∗ ((Memref.whole cc0_stg5_0).view.loc (c : Thread nD τ) ↦{fullShare} fo)
      ∗ slotR c 0 0 0 inb_S2x4x2x512x512_S1x1x1x512x512_0_0_0_0_0 fullShare f0
      ∗ slotR c 0 0 1 inb_S2x4x2x512x512_S1x1x1x512x512_0_0_1_0_0 fullShare f1
      ∗ slotR c 1 0 0 inb_S2x4x2x512x512_S1x1x1x512x512_1_0_0_0_0 fullShare f2
      ∗ slotR c 1 0 1 inb_S2x4x2x512x512_S1x1x1x512x512_1_0_1_0_0 fullShare f3
      ∗ ((Memref.whole cc0_scratch1).view.loc (c : Thread nD τ) ↦{fullShare} fa)
      ∗ ((Memref.whole cc0_scratch2).view.loc (c : Thread nD τ) ↦{fullShare} fc)
      ∗ ((Memref.whole cc0_scratch3).view.loc (c : Thread nD τ) ↦{fullShare} fw)
      ∗ barPay (prv c) 0 ∗ barPay (nxt c) 1
      ∗ owes (c : Thread nD τ) (O₀ c) W
      ∗ cred (tallyAt (barCell c) () 2) ∗ atPos ER (barCell c) 0 ∅ 0 ∗ dutyTok ER (barCell (prv c)) 0 0 ∗ dutyTok ER (barCell (nxt c)) 0 1
      ∗ chain (fun i => cred (tallyAt (recvCell c i) () N))
      ∗ chain (fun i => atPos ER (sendCell c i) 0 ∅ 0) ∗ chain (fun i => atPos ER (recvCell c i) 0 ∅ 0)
      ∗ chain (fun i => dutyTok ER (recvCell (tgt c (dOf i)) i) 0 0) ∗ chain (fun i => dutyTok ER (sendCell c i) 0 0))

/-- What it ends with: the inputs as they were, the result `X`, every slot of the scratch buffer at the contents the ring
    agreed on, every semaphore at zero, nothing owed. -/
def endP (c : Dev nD) (X : Vec F S2x512x768 .f32) : sProp 𝕄 :=
  iprop(((Memref.whole cc0_stg0_0).view.loc (c : Thread nD τ) ↦{fullShare} xstg m ρ c)
      ∗ ((Memref.whole cc0_stg1_0).view.loc (c : Thread nD τ) ↦{fullShare} wqstg m ρ c)
      ∗ ((Memref.whole cc0_stg2_0).view.loc (c : Thread nD τ) ↦{fullShare} kstg m ρ c)
      ∗ ((Memref.whole cc0_stg3_0).view.loc (c : Thread nD τ) ↦{fullShare} vstg m ρ c)
      ∗ ((Memref.whole cc0_stg4_0).view.loc (c : Thread nD τ) ↦{fullShare} wostg m ρ c)
      ∗ (((c : Thread nD τ).loc cc0_stg5_0) ↦{fullShare} X)
      ∗ (((c : Thread nD τ).loc cc0_scratch0) ↦{fullShare} commG m ρ c)
      ∗ (∃ f, ((c : Thread nD τ).loc cc0_scratch1) ↦{fullShare} f)
      ∗ (∃ f, ((c : Thread nD τ).loc cc0_scratch2) ↦{fullShare} f)
      ∗ (∃ f, ((c : Thread nD τ).loc cc0_scratch3) ↦{fullShare} f)
      ∗ semVal (barCell c) 0 ∗ chain (fun i => semVal (sendCell c i) 0) ∗ chain (fun i => semVal (recvCell c i) 0)
      ∗ ∃ W, owes (c : Thread nD τ) 0 W)

omit [FloatOps F] in
/-- One store of the whole result leaves what was stored. -/
theorem out_whole (f : (cc0_stg5_0 : Ref sig .tc).ty.Contents (Elt F)) (v : Vec F S2x512x768 .f32) (hb) :
    (Memref.whole cc0_stg5_0).view.writes (Elt F) f [⟨Rect.unit (s := S2x512x768) ![0, 0, 0] S2x512x768.size hb, v⟩] = v := by
  funext x
  have hx : ((Memref.whole cc0_stg5_0).view.slice (Rect.unit (s := S2x512x768) ![0, 0, 0] S2x512x768.size hb)).emb x = x := by
    funext a
    match a with
    | 0 => exact Fin.ext (by show 0 + 1 * (x 0).val = (x 0).val; omega)
    | 1 => exact Fin.ext (by show 0 + 1 * (x 1).val = (x 1).val; omega)
    | 2 => exact Fin.ext (by show 0 + 1 * (x 2).val = (x 2).val; omega)
  have h := View.write_emb_of_mem (v := (Memref.whole cc0_stg5_0).view.slice (Rect.unit (s := S2x512x768) ![0, 0, 0] S2x512x768.size hb))
    (Val := Elt F) f v (Finset.mem_univ x)
  rw [hx] at h
  exact h

/-- The sixteen slots, put together again. -/
theorem slots_join (c : Dev nD) (f : Buf (Elt F) ((c : Thread nD τ).loc cc0_scratch0)) :
    (iprop(slotH c 0 0 0 (inbSlot 0 0 0) fullShare f ∗ slotH c 0 0 1 (inbSlot 0 0 1) fullShare f ∗ slotH c 0 1 0 (inbSlot 0 1 0) fullShare f
      ∗ slotH c 0 1 1 (inbSlot 0 1 1) fullShare f ∗ slotH c 0 2 0 (inbSlot 0 2 0) fullShare f ∗ slotH c 0 2 1 (inbSlot 0 2 1) fullShare f
      ∗ slotH c 0 3 0 (inbSlot 0 3 0) fullShare f ∗ slotH c 0 3 1 (inbSlot 0 3 1) fullShare f ∗ slotH c 1 0 0 (inbSlot 1 0 0) fullShare f
      ∗ slotH c 1 0 1 (inbSlot 1 0 1) fullShare f ∗ slotH c 1 1 0 (inbSlot 1 1 0) fullShare f ∗ slotH c 1 1 1 (inbSlot 1 1 1) fullShare f
      ∗ slotH c 1 2 0 (inbSlot 1 2 0) fullShare f ∗ slotH c 1 2 1 (inbSlot 1 2 1) fullShare f ∗ slotH c 1 3 0 (inbSlot 1 3 0) fullShare f
      ∗ slotH c 1 3 1 (inbSlot 1 3 1) fullShare f) : sProp 𝕄)
      = (((c : Thread nD τ).loc cc0_scratch0) ↦{fullShare} f) := by
  rw [comm_slots, bigSep_univ_eq_bigSepL [(0, 0, 0), (0, 0, 1), (0, 1, 0), (0, 1, 1), (0, 2, 0), (0, 2, 1), (0, 3, 0), (0, 3, 1),
    (1, 0, 0), (1, 0, 1), (1, 1, 0), (1, 1, 1), (1, 2, 0), (1, 2, 1), (1, 3, 0), (1, 3, 1)] (by decide) (by decide)]
  simp only [bigSepL_cons_cons, bigSepL_singleton, slotPts_eq]
  rfl

set_option maxHeartbeats 0 in
set_option sl_exec.resultNames true in
/-- The body at device `c`, run once: from `startP` it ends with `endP` at the value the run itself names. -/
def run (c : Dev nD) : { X : Vec F S2x512x768 .f32 // ∀ (K : Dev nD × KC → ℕ) (W : Waits sig Unit)
      (f0 f1 f2 f3 : Buf (Elt F) ((c : Thread nD τ).loc cc0_scratch0)) (fa : Buf (Elt F) ((c : Thread nD τ).loc cc0_scratch1))
      (fc : Buf (Elt F) ((c : Thread nD τ).loc cc0_scratch2)) (fw : Buf (Elt F) ((c : Thread nD τ).loc cc0_scratch3))
      (fo : Buf (Elt F) ((c : Thread nD τ).loc cc0_stg5_0)),
      iprop(records m ρ K ∗ levAts L lv ∗ startP m ρ c W f0 f1 f2 f3 fa fc fw fo)
        ⊢ wp frame (wpE (defs₀ (F := F)) 𝒱₀ (c : Thread nD τ) none) Set.univ bodyP (fun _ => endP m ρ c X) } := by
  refine ⟨?X, fun K W f0 f1 f2 f3 fa fc fw fo => ?_⟩
  rotate_left
  unfold startP
  iintro ⟨#HR, #Hlev, Hx, Hwq, Hk, Hv, Hwo, Hout, S000, S001, S100, S101, Hacc, Hctx, Hw, HL0, HL1, HO, HcB, HatB, HtP, HtN,
    ⟨E0, E1, E2, E3, E4, E5, E6, E7, E8, E9, E10, E11⟩, ⟨A0, A1, A2, A3, A4, A5, A6, A7, A8, A9, A10, A11⟩,
    ⟨B0, B1, B2, B3, B4, B5, B6, B7, B8, B9, B10, B11⟩, ⟨U0, U1, U2, U3, U4, U5, U6, U7, U8, U9, U10, U11⟩,
    ⟨V0, V1, V2, V3, V4, V5, V6, V7, V8, V9, V10, V11⟩⟩
  sl_exec
  ihave S000 := (Entails.of_eq (stored m ρ c (nd := 0) (nk := 0) 0 0 rfl rfl _ fullShare f0 _ (congrArg k0_pay4 (load_kbatch (n := 0) 0 rfl _ (kstg m ρ c))))) $$ S000
  ihave S001 := (Entails.of_eq (stored m ρ c (nd := 0) (nk := 1) 0 1 rfl rfl _ fullShare f1 _ (congrArg k0_pay5 (load_vbatch (n := 0) 0 rfl _ (vstg m ρ c))))) $$ S001
  ihave S100 := (Entails.of_eq (stored m ρ c (nd := 1) (nk := 0) 1 0 rfl rfl _ fullShare f2 (k0_pay7 (run.sl.v25 m ρ c)) (congrArg (fun v => k0_pay7 (k0_pay6 v)) (load_kbatch (n := 1) 1 rfl _ (kstg m ρ c))))) $$ S100
  ihave S101 := (Entails.of_eq (stored m ρ c (nd := 1) (nk := 1) 1 1 rfl rfl _ fullShare f3 _ (congrArg k0_pay8 (load_vbatch (n := 1) 1 rfl _ (vstg m ρ c))))) $$ S101
  iapply (signal_prv m ρ K c (prv_dev (k0_dev1_eq c)) (by decide) _) $$ HR HO HtP HL0
  iintro HO
  sl_exec
  iapply (signal_nxt m ρ K c (nxt_dev (k0_dev2_eq c)) (by decide) _) $$ HR HO HtN HL1
  iintro HO
  sl_exec
  iapply (barrier_step m ρ K c (by decide) _) $$ HR Hlev HcB HO HatB
  iintro ⟨HO, HzB, ⟨D0, D1, D2, D3, D4, D5, D6, D7, D8, D9, D10, D11⟩⟩
  sl_exec
  iapply (send_step m ρ K c 0 (d := 0) (h := 0) (h' := 1) (k := 0) (a := 0) (a' := 1) (nxt_dev (k0_dev3_eq c)) rfl rfl rfl rfl rfl rfl rfl rfl _) $$ HR S000 D0 HO U0 V0
  iintro ⟨C0, HO, S000⟩
  sl_exec
  iapply (send_step m ρ K c 1 (d := 1) (h := 0) (h' := 1) (k := 0) (a := 1) (a' := 2) (prv_dev (k0_dev4_eq c)) rfl rfl rfl rfl rfl rfl rfl rfl _) $$ HR S100 D1 HO U1 V1
  iintro ⟨C1, HO, S100⟩
  sl_exec
  iapply (send_step m ρ K c 2 (d := 0) (h := 0) (h' := 1) (k := 1) (a := 2) (a' := 3) (nxt_dev (k0_dev5_eq c)) rfl rfl rfl rfl rfl rfl rfl rfl _) $$ HR S001 D2 HO U2 V2
  iintro ⟨C2, HO, S001⟩
  sl_exec
  iapply (send_step m ρ K c 3 (d := 1) (h := 0) (h' := 1) (k := 1) (a := 3) (a' := 4) (prv_dev (k0_dev6_eq c)) rfl rfl rfl rfl rfl rfl rfl rfl _) $$ HR S101 D3 HO U3 V3
  iintro ⟨C3, HO, S101⟩
  ihave S000 := show_slot $$ S000
  sl_exec
  ihave S000 := hide_slot $$ S000
  ihave S100 := show_slot $$ S100
  sl_exec
  ihave S100 := hide_slot $$ S100
  ihave S001 := show_slot $$ S001
  sl_exec
  ihave S001 := hide_slot $$ S001
  ihave S101 := show_slot $$ S101
  sl_exec
  ihave S101 := hide_slot $$ S101
  iapply (sent_step m ρ K c 0 (d := 0) (h := 0) (k := 0) rfl rfl rfl rfl 4 (by decide) _) $$ HR Hlev C0 HO A0 S000
  iintro ⟨HO, A0, S000⟩
  sl_exec
  iapply (landed_step m ρ K c 0 (d := 0) (h' := 1) (k := 0) rfl rfl rfl (hb := inb_S2x4x2x512x512_S1x1x1x512x512_0_1_0_0_0) rfl 4 (by decide) _) $$ HR Hlev E0 HO B0
  iintro ⟨HO, B0, S010⟩
  sl_exec
  iapply (sent_step m ρ K c 1 (d := 1) (h := 0) (k := 0) rfl rfl rfl rfl 4 (by decide) _) $$ HR Hlev C1 HO A1 S100
  iintro ⟨HO, A1, S100⟩
  sl_exec
  iapply (landed_step m ρ K c 1 (d := 1) (h' := 1) (k := 0) rfl rfl rfl (hb := inb_S2x4x2x512x512_S1x1x1x512x512_1_1_0_0_0) rfl 4 (by decide) _) $$ HR Hlev E1 HO B1
  iintro ⟨HO, B1, S110⟩
  sl_exec
  iapply (send_step m ρ K c 4 (d := 0) (h := 1) (h' := 2) (k := 0) (a := 4) (a' := 5) (nxt_dev (k0_dev7_eq c)) rfl rfl rfl rfl rfl rfl rfl rfl _) $$ HR S010 D4 HO U4 V4
  iintro ⟨C4, HO, S010⟩
  sl_exec
  iapply (send_step m ρ K c 5 (d := 1) (h := 1) (h' := 2) (k := 0) (a := 5) (a' := 6) (prv_dev (k0_dev8_eq c)) rfl rfl rfl rfl rfl rfl rfl rfl _) $$ HR S110 D5 HO U5 V5
  iintro ⟨C5, HO, S110⟩
  ihave S010 := show_slot $$ S010
  sl_exec
  ihave S010 := hide_slot $$ S010
  ihave S110 := show_slot $$ S110
  sl_exec
  ihave S110 := hide_slot $$ S110
  iapply (sent_step m ρ K c 2 (d := 0) (h := 0) (k := 1) rfl rfl rfl rfl 6 (by decide) _) $$ HR Hlev C2 HO A2 S001
  iintro ⟨HO, A2, S001⟩
  sl_exec
  iapply (landed_step m ρ K c 2 (d := 0) (h' := 1) (k := 1) rfl rfl rfl (hb := inb_S2x4x2x512x512_S1x1x1x512x512_0_1_1_0_0) rfl 6 (by decide) _) $$ HR Hlev E2 HO B2
  iintro ⟨HO, B2, S011⟩
  sl_exec
  iapply (sent_step m ρ K c 3 (d := 1) (h := 0) (k := 1) rfl rfl rfl rfl 6 (by decide) _) $$ HR Hlev C3 HO A3 S101
  iintro ⟨HO, A3, S101⟩
  sl_exec
  iapply (landed_step m ρ K c 3 (d := 1) (h' := 1) (k := 1) rfl rfl rfl (hb := inb_S2x4x2x512x512_S1x1x1x512x512_1_1_1_0_0) rfl 6 (by decide) _) $$ HR Hlev E3 HO B3
  iintro ⟨HO, B3, S111⟩
  sl_exec
  iapply (send_step m ρ K c 6 (d := 0) (h := 1) (h' := 2) (k := 1) (a := 6) (a' := 7) (nxt_dev (k0_dev9_eq c)) rfl rfl rfl rfl rfl rfl rfl rfl _) $$ HR S011 D6 HO U6 V6
  iintro ⟨C6, HO, S011⟩
  sl_exec
  iapply (send_step m ρ K c 7 (d := 1) (h := 1) (h' := 2) (k := 1) (a := 7) (a' := 8) (prv_dev (k0_dev10_eq c)) rfl rfl rfl rfl rfl rfl rfl rfl _) $$ HR S111 D7 HO U7 V7
  iintro ⟨C7, HO, S111⟩
  ihave S011 := show_slot $$ S011
  sl_exec
  ihave S011 := hide_slot $$ S011
  ihave S111 := show_slot $$ S111
  sl_exec
  ihave S111 := hide_slot $$ S111
  iapply (sent_step m ρ K c 4 (d := 0) (h := 1) (k := 0) rfl rfl rfl rfl 8 (by decide) _) $$ HR Hlev C4 HO A4 S010
  iintro ⟨HO, A4, S010⟩
  sl_exec
  iapply (landed_step m ρ K c 4 (d := 0) (h' := 2) (k := 0) rfl rfl rfl (hb := inb_S2x4x2x512x512_S1x1x1x512x512_0_2_0_0_0) rfl 8 (by decide) _) $$ HR Hlev E4 HO B4
  iintro ⟨HO, B4, S020⟩
  sl_exec
  iapply (sent_step m ρ K c 5 (d := 1) (h := 1) (k := 0) rfl rfl rfl rfl 8 (by decide) _) $$ HR Hlev C5 HO A5 S110
  iintro ⟨HO, A5, S110⟩
  sl_exec
  iapply (landed_step m ρ K c 5 (d := 1) (h' := 2) (k := 0) rfl rfl rfl (hb := inb_S2x4x2x512x512_S1x1x1x512x512_1_2_0_0_0) rfl 8 (by decide) _) $$ HR Hlev E5 HO B5
  iintro ⟨HO, B5, S120⟩
  sl_exec
  iapply (send_step m ρ K c 8 (d := 0) (h := 2) (h' := 3) (k := 0) (a := 8) (a' := 9) (nxt_dev (k0_dev11_eq c)) rfl rfl rfl rfl rfl rfl rfl rfl _) $$ HR S020 D8 HO U8 V8
  iintro ⟨C8, HO, S020⟩
  sl_exec
  iapply (send_step m ρ K c 9 (d := 1) (h := 2) (h' := 3) (k := 0) (a := 9) (a' := 10) (prv_dev (k0_dev12_eq c)) rfl rfl rfl rfl rfl rfl rfl rfl _) $$ HR S120 D9 HO U9 V9
  iintro ⟨C9, HO, S120⟩
  ihave S020 := show_slot $$ S020
  sl_exec
  ihave S020 := hide_slot $$ S020
  ihave S120 := show_slot $$ S120
  sl_exec
  ihave S120 := hide_slot $$ S120
  iapply (sent_step m ρ K c 6 (d := 0) (h := 1) (k := 1) rfl rfl rfl rfl 10 (by decide) _) $$ HR Hlev C6 HO A6 S011
  iintro ⟨HO, A6, S011⟩
  sl_exec
  iapply (landed_step m ρ K c 6 (d := 0) (h' := 2) (k := 1) rfl rfl rfl (hb := inb_S2x4x2x512x512_S1x1x1x512x512_0_2_1_0_0) rfl 10 (by decide) _) $$ HR Hlev E6 HO B6
  iintro ⟨HO, B6, S021⟩
  sl_exec
  iapply (sent_step m ρ K c 7 (d := 1) (h := 1) (k := 1) rfl rfl rfl rfl 10 (by decide) _) $$ HR Hlev C7 HO A7 S111
  iintro ⟨HO, A7, S111⟩
  sl_exec
  iapply (landed_step m ρ K c 7 (d := 1) (h' := 2) (k := 1) rfl rfl rfl (hb := inb_S2x4x2x512x512_S1x1x1x512x512_1_2_1_0_0) rfl 10 (by decide) _) $$ HR Hlev E7 HO B7
  iintro ⟨HO, B7, S121⟩
  sl_exec
  iapply (send_step m ρ K c 10 (d := 0) (h := 2) (h' := 3) (k := 1) (a := 10) (a' := 11) (nxt_dev (k0_dev13_eq c)) rfl rfl rfl rfl rfl rfl rfl rfl _) $$ HR S021 D10 HO U10 V10
  iintro ⟨C10, HO, S021⟩
  sl_exec
  iapply (send_step m ρ K c 11 (d := 1) (h := 2) (h' := 3) (k := 1) (a := 11) (a' := 12) (prv_dev (k0_dev14_eq c)) rfl rfl rfl rfl rfl rfl rfl rfl _) $$ HR S121 D11 HO U11 V11
  iintro ⟨C11, HO, S121⟩
  ihave S021 := show_slot $$ S021
  sl_exec
  ihave S021 := hide_slot $$ S021
  ihave S121 := show_slot $$ S121
  sl_exec
  ihave S121 := hide_slot $$ S121
  iapply (sent_step m ρ K c 8 (d := 0) (h := 2) (k := 0) rfl rfl rfl rfl 12 (by decide) _) $$ HR Hlev C8 HO A8 S020
  iintro ⟨HO, A8, S020⟩
  sl_exec
  iapply (landed_step m ρ K c 8 (d := 0) (h' := 3) (k := 0) rfl rfl rfl (hb := inb_S2x4x2x512x512_S1x1x1x512x512_0_3_0_0_0) rfl 12 (by decide) _) $$ HR Hlev E8 HO B8
  iintro ⟨HO, B8, S030⟩
  sl_exec
  iapply (sent_step m ρ K c 9 (d := 1) (h := 2) (k := 0) rfl rfl rfl rfl 12 (by decide) _) $$ HR Hlev C9 HO A9 S120
  iintro ⟨HO, A9, S120⟩
  sl_exec
  iapply (landed_step m ρ K c 9 (d := 1) (h' := 3) (k := 0) rfl rfl rfl (hb := inb_S2x4x2x512x512_S1x1x1x512x512_1_3_0_0_0) rfl 12 (by decide) _) $$ HR Hlev E9 HO B9
  iintro ⟨HO, B9, S130⟩
  ihave S030 := show_slot $$ S030
  sl_exec
  ihave S030 := hide_slot $$ S030
  ihave S130 := show_slot $$ S130
  sl_exec
  ihave S130 := hide_slot $$ S130
  iapply (sent_step m ρ K c 10 (d := 0) (h := 2) (k := 1) rfl rfl rfl rfl 12 (by decide) _) $$ HR Hlev C10 HO A10 S021
  iintro ⟨HO, A10, S021⟩
  sl_exec
  iapply (landed_step m ρ K c 10 (d := 0) (h' := 3) (k := 1) rfl rfl rfl (hb := inb_S2x4x2x512x512_S1x1x1x512x512_0_3_1_0_0) rfl 12 (by decide) _) $$ HR Hlev E10 HO B10
  iintro ⟨HO, B10, S031⟩
  sl_exec
  iapply (sent_step m ρ K c 11 (d := 1) (h := 2) (k := 1) rfl rfl rfl rfl 12 (by decide) _) $$ HR Hlev C11 HO A11 S121
  iintro ⟨HO, A11, S121⟩
  sl_exec
  iapply (landed_step m ρ K c 11 (d := 1) (h' := 3) (k := 1) rfl rfl rfl (hb := inb_S2x4x2x512x512_S1x1x1x512x512_1_3_1_0_0) rfl 12 (by decide) _) $$ HR Hlev E11 HO B11
  iintro ⟨HO, B11, S131⟩
  ihave S031 := show_slot $$ S031
  sl_exec
  ihave S031 := hide_slot $$ S031
  ihave S131 := show_slot $$ S131
  sl_exec
  ihave S131 := hide_slot $$ S131
  rw [wp_ret]
  imodintro
  unfold endP
  ihave Hs := (Entails.of_eq (slots_join c (commG m ρ c))) $$ [S000 S001 S010 S011 S020 S021 S030 S031 S100 S101 S110 S111 S120 S121 S130 S131]
  · isplitl [S000]; · iexact S000
    isplitl [S001]; · iexact S001
    isplitl [S010]; · iexact S010
    isplitl [S011]; · iexact S011
    isplitl [S020]; · iexact S020
    isplitl [S021]; · iexact S021
    isplitl [S030]; · iexact S030
    isplitl [S031]; · iexact S031
    isplitl [S100]; · iexact S100
    isplitl [S101]; · iexact S101
    isplitl [S110]; · iexact S110
    isplitl [S111]; · iexact S111
    isplitl [S120]; · iexact S120
    isplitl [S121]; · iexact S121
    isplitl [S130]; · iexact S130
    iexact S131
  rw [out_whole]
  isplitl [Hx]; · iexact Hx
  isplitl [Hwq]; · iexact Hwq
  isplitl [Hk]; · iexact Hk
  isplitl [Hv]; · iexact Hv
  isplitl [Hwo]; · iexact Hwo
  isplitl [Hout]; · iexact Hout
  isplitl [Hs]; · iexact Hs
  isplitl [Hacc]; · iexists _; iexact Hacc
  isplitl [Hctx]; · iexists _; iexact Hctx
  isplitl [Hw]; · iexists _; iexact Hw
  isplitl [HzB]; · iexact HzB
  isplitl [A0 A1 A2 A3 A4 A5 A6 A7 A8 A9 A10 A11]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    iexact A11
  isplitl [B0 B1 B2 B3 B4 B5 B6 B7 B8 B9 B10 B11]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    iexact B11
  iexists _
  rw [← owedFrom_all c]
  iexact HO

end Cert.Attn

end
-- ==== Proof.Launch.lean ====
/-
# 01_k — `Launch`: the launch of the four devices, and what every final state holds

`Body.run` speaks of one device that starts from its staged blocks, its cells' positions and duties. Here these are
dealt: every cell of every device is allocated under one map of names; device `c` gets the duty tokens of the cells it
pays (its neighbours' barriers, its targets' receive cells, its own send cells) by turning each batch's ring of devices.
`run_main` is the run of @main on all devices, for any float values `F`.
-/
module

public import proofs.«01_k».proof.Proof.Body
public import proofs.«01_k».proof.Proof.Gen.KernelIdeal.Points
public import Idealize.ShloMosaic.Lib.Quiescent
public import Idealize.ShloMosaic.Lib.Pipeline.CollectiveSegs

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device's body starts from and ends with -/

/-- The duty tokens device `c` pays with. -/
def payToks (c : Dev nD) : sProp 𝕄 :=
  iprop((dutyTok ER (barCell (prv c)) 0 0 ∗ dutyTok ER (barCell (nxt c)) 0 1)
    ∗ (bigSep Finset.univ fun i : Fin 12 => dutyTok ER (sendCell c i) 0 0)
    ∗ (bigSep Finset.univ fun i : Fin 12 => dutyTok ER (recvCell (tgt c (dOf i)) i) 0 0))

/-- Its own cells' positions, and those tokens. -/
def linear (c : Dev nD) : sProp 𝕄 :=
  iprop((bigSep Finset.univ fun k : KC => atPos ER (kcell (c, k)) 0 ∅ 0) ∗ payToks c)

/-- What it waits with: two barrier units, a slot's credit for each copy it receives. -/
def credits (c : Dev nD) : sProp 𝕄 :=
  iprop(cred (tallyAt (barCell c) () 2) ∗ bigSep Finset.univ fun i : Fin 12 => cred (tallyAt (recvCell c i) () N))

/-- The launch's share of device `c`. -/
def G' (c : Dev nD) : sProp 𝕄 := iprop(∃ K, records m ρ K ∗ linear c)

def start (c : Dev nD) : sProp 𝕄 := iprop(G' m ρ c ∗ credits c ∗ levAts L lv)

/-- The four scratch buffers, whatever they hold. -/
def scratches (c : Dev nD) : sProp 𝕄 :=
  iprop((∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f) ∗ (∃ f, ((c : Thread nD τ).loc cc0_scratch3) ↦{fullShare} f))

/-- All its semaphores at zero. -/
def zeros (c : Dev nD) : sProp 𝕄 :=
  iprop(semVal (barCell c) 0 ∗ (bigSep Finset.univ fun i : Fin 12 => semVal (sendCell c i) 0) ∗ (bigSep Finset.univ fun i : Fin 12 => semVal (recvCell c i) 0))

def Φ₀ (c : Dev nD) : sProp 𝕄 := iprop(start m ρ c ∗ scratches c)
def Φ₁ (c : Dev nD) : sProp 𝕄 := iprop(scratches c ∗ zeros c)

/-- The kernel's result on device `c`. -/
def outAt (c : Dev nD) : Vec F S2x512x768 .f32 := (run m ρ c).1

/-- The proof data of the one region: inputs kept, the result `outAt`. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wqstg m ρ c
    | ⟨2, _⟩ => kstg m ρ c
    | ⟨3, _⟩ => vstg m ρ c
    | ⟨4, _⟩ => wostg m ρ c
    | ⟨5, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- One staging buffer as the region hands it over. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem two (Ψ : Fin 2 → sProp 𝕄) : bigSep Finset.univ Ψ = iprop(Ψ 0 ∗ Ψ 1) := bigSep_fin_two Ψ
omit [FloatOps F] in
/-- A device's cells: the barrier, the sends, the receives. -/
theorem per_kind (Ψ : KC → sProp 𝕄) : bigSep Finset.univ Ψ
    = iprop(Ψ (.inl ()) ∗ (bigSep Finset.univ fun i : Fin 12 => Ψ (.inr (.inl i))) ∗ (bigSep Finset.univ fun i : Fin 12 => Ψ (.inr (.inr i)))) := by
  rw [bigSep_univ_sum, bigSep_univ_sum, bigSep_univ_of_subsingleton ()]; rfl

/-- The sixteen slots sorted: `c`'s own four of hop 0, and its landing slots by the neighbour who fills them. -/
theorem deal_slots (c : Dev nD) (f : Buf (Elt F) ((c : Thread nD τ).loc cc0_scratch0)) :
    (((c : Thread nD τ).loc cc0_scratch0) ↦{fullShare} f : sProp 𝕄)
      ⊢ iprop(slotR c 0 0 0 inb_S2x4x2x512x512_S1x1x1x512x512_0_0_0_0_0 fullShare f
        ∗ slotR c 0 0 1 inb_S2x4x2x512x512_S1x1x1x512x512_0_0_1_0_0 fullShare f
        ∗ slotR c 1 0 0 inb_S2x4x2x512x512_S1x1x1x512x512_1_0_0_0_0 fullShare f
        ∗ slotR c 1 0 1 inb_S2x4x2x512x512_S1x1x1x512x512_1_0_1_0_0 fullShare f
        ∗ barPay (prv c) 0 ∗ barPay (nxt c) 1) := by
  have hl (d : Fin 2) : (bigSep Finset.univ fun x : Fin 3 × Fin 2 => slotPts c d x.1.succ x.2 fullShare f : sProp 𝕄) ⊢ barPay (src c d) d := by
    unfold barPay
    rw [tgt_src]
    have hx (x : Fin 3 × Fin 2) : (slotPts c d x.1.succ x.2 fullShare f : sProp 𝕄) ⊢ iprop(∃ f, slotPts c d x.1.succ x.2 fullShare f) := by
      iintro H; iexists f; iexact H
    exact bigSep_mono fun x _ => hx x
  have hs (d : Fin 2) : (bigSep Finset.univ fun y : Fin 4 × Fin 2 => slotPts c d y.1 y.2 fullShare f : sProp 𝕄)
      = iprop((bigSep Finset.univ fun k : Fin 2 => slotPts c d 0 k fullShare f) ∗ bigSep Finset.univ fun x : Fin 3 × Fin 2 => slotPts c d x.1.succ x.2 fullShare f) := by
    rw [bigSep_univ_prod, bigSep_univ_prod,
      bigSep_univ_eq_bigSepL (I := Fin 4) [0, 1, 2, 3] (by decide) (by decide), bigSep_univ_eq_bigSepL (I := Fin 3) [0, 1, 2] (by decide) (by decide)]
    rfl
  rw [comm_slots, bigSep_univ_prod, two, hs 0, hs 1, two, two]
  simp only [slotPts_eq]
  iintro ⟨⟨⟨H0, H1⟩, HA⟩, ⟨H2, H3⟩, HB⟩
  isplitl [H0]; · iexact H0
  isplitl [H1]; · iexact H1
  isplitl [H2]; · iexact H2
  isplitl [H3]; · iexact H3
  simp only [← slotPts_eq]
  isplitl [HA]
  · iapply (hl 0); iexact HA
  · iapply (hl 1); iexact HB

def bodyPre (c : Dev nD) : sProp 𝕄 :=
  iprop(Φ₀ m ρ c ∗ (dats m ρ 0 c).owesAt () t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))

def bodyPost (c : Dev nD) : sProp 𝕄 :=
  iprop(Φ₁ c ∗ (dats m ρ 0 c).owesAt () t0_0.succ
    ∗ stg c cc0_stg0_0 (xstg m ρ c) ∗ stg c cc0_stg1_0 (wqstg m ρ c) ∗ stg c cc0_stg2_0 (kstg m ρ c)
    ∗ stg c cc0_stg3_0 (vstg m ρ c) ∗ stg c cc0_stg4_0 (wostg m ρ c) ∗ stg c cc0_stg5_0 (outAt m ρ c))

/-- What the body ends with is what the region wants back. -/
theorem end_post (c : Dev nD) : endP m ρ c (outAt m ρ c) ⊢ bodyPost m ρ c := by
  unfold endP bodyPost Φ₁ scratches zeros Dat.owesAt Pipeline.owesWithin
  rw [show (dats m ρ 0 c).owed t0_0.succ = 0 from rfl, chain_eq, chain_eq]
  iintro ⟨Hx, Hwq, Hk, Hv, Hwo, Hout, Hs0, Hs1, Hs2, Hs3, HzB, HzS, HzR, ⟨%W, HO⟩⟩
  isplitl [Hs0 Hs1 Hs2 Hs3 HzB HzS HzR]
  · isplitl [Hs0 Hs1 Hs2 Hs3]
    · isplitl [Hs0]; · iexists _; iexact Hs0
      isplitl [Hs1]; · iexact Hs1
      isplitl [Hs2]; · iexact Hs2
      iexact Hs3
    isplitl [HzB]; · iexact HzB
    isplitl [HzS]; · iexact HzS
    iexact HzR
  isplitl [HO]
  · iexists W
    isplitr; · ipureintro; exact fun _ _ => Or.inl trivial
    iexact HO
  isplitl [Hx]; · iexists _; isplitr; · (ipureintro; rfl)
                  iexact Hx
  isplitl [Hwq]; · iexists _; isplitr; · (ipureintro; rfl)
                   iexact Hwq
  isplitl [Hk]; · iexists _; isplitr; · (ipureintro; rfl)
                  iexact Hk
  isplitl [Hv]; · iexists _; isplitr; · (ipureintro; rfl)
                  iexact Hv
  isplitl [Hwo]; · iexists _; isplitr; · (ipureintro; rfl)
                   iexact Hwo
  iexists _; isplitr; · (ipureintro; rfl)
  iexact Hout

/-- What the region hands over is what the body starts from. -/
theorem pre_start (c : Dev nD) : bodyPre m ρ c
    ⊢ iprop(∃ K W f0 fa fc fw fo, records m ρ K ∗ levAts L lv ∗ startP m ρ c W f0 f0 f0 f0 fa fc fw fo) := by
  unfold bodyPre Φ₀ start G' scratches credits linear payToks Dat.owesAt Pipeline.owesWithin
  rw [show (dats m ρ 0 c).owed t0_0.castSucc = O₀ c from rfl, per_kind]
  iintro ⟨⟨⟨⟨%K, #HR, ⟨HatB, HatS, HatV⟩, ⟨HtP, HtN⟩, HtS, HtV⟩, ⟨HcB, HcV⟩, #Hlev⟩, ⟨%f0, Hs0⟩, ⟨%fa, Hs1⟩, ⟨%fc, Hs2⟩, ⟨%fw, Hs3⟩⟩, ⟨%W, %hW, HO⟩,
    ⟨%d0, %g0, %hg0, Hx⟩, ⟨%d1, %g1, %hg1, Hwq⟩, ⟨%d2, %g2, %hg2, Hk⟩, ⟨%d3, %g3, %hg3, Hv⟩, ⟨%d4, %g4, %hg4, Hwo⟩, ⟨%d5, %fo, %hg5, Hout⟩⟩
  have h0 : g0 = xstg m ρ c := by rw [hg0]; unfold Dat.before; rw [if_pos (fetch0_0 t0_0)]; rfl
  have h1 : g1 = wqstg m ρ c := by rw [hg1]; unfold Dat.before; rw [if_pos (fetch0_1 t0_0)]; rfl
  have h2 : g2 = kstg m ρ c := by rw [hg2]; unfold Dat.before; rw [if_pos (fetch0_2 t0_0)]; rfl
  have h3 : g3 = vstg m ρ c := by rw [hg3]; unfold Dat.before; rw [if_pos (fetch0_3 t0_0)]; rfl
  have h4 : g4 = wostg m ρ c := by rw [hg4]; unfold Dat.before; rw [if_pos (fetch0_4 t0_0)]; rfl
  subst h0 h1 h2 h3 h4
  ihave HL := (deal_slots c f0) $$ Hs0
  icases HL with ⟨H0, H1, H2, H3, HL0, HL1⟩
  iexists K, W, f0, fa, fc, fw, fo
  unfold startP
  isplitr; · iexact HR
  isplitr; · iexact Hlev
  isplitl [Hx]; · iexact Hx
  isplitl [Hwq]; · iexact Hwq
  isplitl [Hk]; · iexact Hk
  isplitl [Hv]; · iexact Hv
  isplitl [Hwo]; · iexact Hwo
  isplitl [Hout]; · iexact Hout
  isplitl [H0]; · iexact H0
  isplitl [H1]; · iexact H1
  isplitl [H2]; · iexact H2
  isplitl [H3]; · iexact H3
  isplitl [Hs1]; · iexact Hs1
  isplitl [Hs2]; · iexact Hs2
  isplitl [Hs3]; · iexact Hs3
  isplitl [HL0]; · iexact HL0
  isplitl [HL1]; · iexact HL1
  isplitl [HO]; · iexact HO
  isplitl [HcB]; · iexact HcB
  isplitl [HatB]; · iexact HatB
  isplitl [HtP]; · iexact HtP
  isplitl [HtN]; · iexact HtN
  isplitl [HcV]; · iapply (Entails.of_eq (chain_eq _)); iexact HcV
  isplitl [HatS]; · iapply (Entails.of_eq (chain_eq _)); iexact HatS
  isplitl [HatV]; · iapply (Entails.of_eq (chain_eq _)); iexact HatV
  isplitl [HtV]; · iapply (Entails.of_eq (chain_eq _)); iexact HtV
  iapply (Entails.of_eq (chain_eq _)); iexact HtS

/-- The run of the body, its result named. -/
theorem run_out (c : Dev nD) : iprop(∃ K W f0 fa fc fw fo, records m ρ K ∗ levAts L lv ∗ startP m ρ c W f0 f0 f0 f0 fa fc fw fo)
    ⊢ wp frame (wpE (defs₀ (F := F)) 𝒱₀ (c : Thread nD τ) none) Set.univ bodyP (fun _ => endP m ρ c (outAt m ρ c)) := by
  have h (K W f0 fa fc fw fo) := (run m ρ c).2 K W f0 f0 f0 f0 fa fc fw fo
  unfold outAt
  generalize (run m ρ c).1 = X at h ⊢
  generalize (bodyP : Prog (TpuEff nD τ sig (Elt F) Λ₀ .tc) PUnit) = p at h ⊢
  iintro ⟨%K, %W, %f0, %fa, %fc, %fw, %fo, H⟩
  iapply (h K W f0 fa fc fw fo)
  iexact H

theorem body_eq : defs₀ (F := F) .tc cfg0.body (cfg0.bodyArgs t0_0 (cfg0.slots t0_0)) = bodyP := rfl

/-- The body obligation of the region. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  have e1 : iprop((dats m ρ 0 c).Φ t0_0.castSucc ∗ (dats m ρ 0 c).owesAt () t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d))) ⊢ bodyPre m ρ c := Entails.refl _
  have e2 : bodyPost m ρ c ⊢ iprop((dats m ρ 0 c).Φ t0_0.succ ∗ (dats m ρ 0 c).owesAt () t0_0.succ
    ∗ stg c cc0_stg0_0 ((dats m ρ 0 c).after (0 : Fin 6) t0_0) ∗ stg c cc0_stg1_0 ((dats m ρ 0 c).after (1 : Fin 6) t0_0)
    ∗ stg c cc0_stg2_0 ((dats m ρ 0 c).after (2 : Fin 6) t0_0) ∗ stg c cc0_stg3_0 ((dats m ρ 0 c).after (3 : Fin 6) t0_0)
    ∗ stg c cc0_stg4_0 ((dats m ρ 0 c).after (4 : Fin 6) t0_0) ∗ stg c cc0_stg5_0 ((dats m ρ 0 c).after (5 : Fin 6) t0_0)) := Entails.refl _
  refine e1.trans ((pre_start m ρ c).trans ?_)
  refine BIBase.Entails.trans ?_ ((wp _ _ _ _).mono fun _ => e2)
  refine BIBase.Entails.trans ?_ ((wp _ _ _ _).mono fun _ => end_post m ρ c)
  rw [body_eq]
  have h := run_out m ρ c
  generalize (bodyP : Prog (TpuEff nD τ sig (Elt F) Λ₀ .tc) PUnit) = p at h ⊢
  exact h

/-! ## The dealing -/

/-- The kernel's own semaphores: the sends and the receives. -/
abbrev osem : Fin 12 ⊕ Fin 12 → SemLoc sig := fun k => csem (.inr k)

theorem ownSemFacts : Pipeline.OwnSemFacts cfg0.spec osem := by decide

theorem share_eq (c : Dev nD) (w : Fin cfg0.W) : (dats m ρ 0 c).share w = fullShare := by unfold Dat.share; split <;> rfl

def cells : Finset (GSem nD τ sig) := Finset.univ.map ⟨kcell, kcell_injective⟩

/-- The duties of a device's own cells: its barrier's two, one of each send and each receive. -/
abbrev tokOf (x : Dev nD × (Fin 2 ⊕ (Fin 12 ⊕ Fin 12))) : GSem nD τ sig × ℕ × Fin 2 :=
  match x.2 with
  | .inl d => (barCell x.1, 0, d)
  | .inr k => (kcell (x.1, .inr k), 0, 0)

theorem tokOf_injective : Function.Injective tokOf := by
  rintro ⟨c, d | k⟩ ⟨c', d' | k'⟩ h
  · have h1 : c = c' := congrArg (fun y : GSem nD τ sig × ℕ × Fin 2 => y.1.1.1) h
    have h2 : d = d' := congrArg (fun y : GSem nD τ sig × ℕ × Fin 2 => y.2.2) h
    rw [h1, h2]
  · have h1 : csem (.inl ()) = csem (.inr k') := congrArg (fun y : GSem nD τ sig × ℕ × Fin 2 => y.1.2) h
    exact absurd (csem_injective h1) (by simp)
  · have h1 : csem (.inr k) = csem (.inl ()) := congrArg (fun y : GSem nD τ sig × ℕ × Fin 2 => y.1.2) h
    exact absurd (csem_injective h1) (by simp)
  · have h1 : (c, (Sum.inr k : KC)) = (c', .inr k') := kcell_injective (congrArg (fun y : GSem nD τ sig × ℕ × Fin 2 => y.1) h)
    have h2 := congrArg Prod.fst h1
    have h3 : k = k' := Sum.inr.inj (congrArg Prod.snd h1)
    dsimp only at h2
    rw [h2, h3]

def duties : Finset (GSem nD τ sig × ℕ × Fin 2) := Finset.univ.map ⟨tokOf, tokOf_injective⟩

def u₀ : UU := (initOf (Pipeline.cells cfgs cellOf_inj) (Pipeline.launchToks cfgs cellOf_inj), initOf cells duties)

/-- The duty tokens of device `c`'s own cells. -/
def toks (c : Dev nD) : sProp 𝕄 :=
  iprop((bigSep Finset.univ fun d : Fin 2 => dutyTok ER (barCell c) 0 d)
    ∗ (bigSep Finset.univ fun i : Fin 12 => dutyTok ER (sendCell c i) 0 0) ∗ (bigSep Finset.univ fun i : Fin 12 => dutyTok ER (recvCell c i) 0 0))

/-- What the launch element deals device `c`. -/
def G (c : Dev nD) : sProp 𝕄 :=
  iprop((bigSep Finset.univ fun k : KC => roundState ER (Rd m ρ) (kcell (c, k)) 0)
    ∗ (bigSep Finset.univ fun k : KC => iprop(atPos ER (kcell (c, k)) 0 ∅ 0 ∗ reached ER (kcell (c, k)) 0)) ∗ toks c)

theorem fund_cells : BI.own (ER (initOf cells duties)) ⊢ (|==> bigSep Finset.univ (G m ρ) : sProp 𝕄) := by
  have hX (Ψ : GSem nD τ sig → sProp 𝕄) : bigSep cells Ψ = bigSep Finset.univ fun c : Dev nD => bigSep Finset.univ fun k : KC => Ψ (kcell (c, k)) := by
    unfold cells; rw [bigSep_map, bigSep_univ_prod]; rfl
  have hT : bigSep duties (fun x => (dutyTok ER x.1 x.2.1 x.2.2 : sProp 𝕄)) = bigSep Finset.univ fun c : Dev nD => toks c := by
    unfold duties; rw [bigSep_map, bigSep_univ_prod]
    exact bigSep_congr fun c _ => by unfold toks; rw [bigSep_univ_sum, bigSep_univ_sum]; rfl
  iintro HX
  imod (Rounds.fund ER (Rd m ρ) cells duties) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The barrier semaphore is the one the launch itself holds. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- Own and unscoped semaphores together are the device's cells. -/
theorem sems_eq (c : Dev nD) :
    iprop(unscopedSems0 c ∗ Pipeline.ownSems0 (Ix := Unit) (Name := ℕ) (U := UU) (Lvl := ℕ) (Val := Elt F) (τ := τ) osem c)
      = (bigSep Finset.univ fun k : KC => semVal (kcell (c, k)) 0 : sProp 𝕄) := by
  rw [unscopedSems0_eq, bigSep_univ_sum, bigSep_univ_of_subsingleton ()]; rfl

theorem alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : KC => iprop(∃ κ : ℕ, cellInv ER (Rd m ρ) κ (kcell (c, k))))
          ∗ (bigSep Finset.univ fun k : KC => iprop(atPos ER (kcell (c, k)) 0 ∅ 0 ∗ reached ER (kcell (c, k)) 0)) ∗ toks c) := by
  unfold G
  iintro ⟨Hos, Hus, Hst, Hat, Htok⟩
  ihave Hv := (Entails.of_eq (sems_eq (F := F) c)) $$ [Hos Hus]
  · isplitl [Hus] <;> iassumption
  imod (show iprop((bigSep Finset.univ fun k : KC => semVal (kcell (c, k)) 0) ∗ bigSep Finset.univ fun k : KC => roundState ER (Rd m ρ) (kcell (c, k)) 0)
      ⊢ (|={Set.univ}=> bigSep Finset.univ fun k : KC => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Every copy's receive cell, one device along its batch's ring. -/
def along : Dev nD × Fin 12 ≃ Dev nD × Fin 12 :=
  ⟨fun x => (tgt x.1 (dOf x.2), x.2), fun x => (src x.1 (dOf x.2), x.2),
    fun x => by dsimp only; rw [src_tgt], fun x => by dsimp only; rw [tgt_src]⟩

/-- Each token goes to the device that pays its duty. -/
theorem toks_around : (bigSep Finset.univ fun c : Dev nD => (toks c : sProp 𝕄)) ⊢ bigSep Finset.univ fun c : Dev nD => payToks c := by
  have hr : (bigSep Finset.univ fun c : Dev nD => bigSep Finset.univ fun i : Fin 12 => (dutyTok ER (recvCell c i) 0 0 : sProp 𝕄))
      = bigSep Finset.univ fun c : Dev nD => bigSep Finset.univ fun i : Fin 12 => dutyTok ER (recvCell (tgt c (dOf i)) i) 0 0 := by
    rw [← bigSep_univ_prod (fun x : Dev nD × Fin 12 => (dutyTok ER (recvCell x.1 x.2) 0 0 : sProp 𝕄)),
      bigSep_univ_equiv along, bigSep_univ_prod]
    rfl
  have hb (d : Fin 2) : (bigSep Finset.univ fun c : Dev nD => (dutyTok ER (barCell c) 0 d : sProp 𝕄))
      = bigSep Finset.univ fun c : Dev nD => dutyTok ER (barCell (src c d)) 0 d :=
    bigSep_univ_equiv (ring d).symm (fun c : Dev nD => (dutyTok ER (barCell c) 0 d : sProp 𝕄))
  unfold toks payToks
  simp only [two, bigSep_sep']
  rw [hr, hb 0, hb 1]
  iintro ⟨⟨H0, H1⟩, H2, H3⟩
  isplitl [H0 H1]
  · isplitl [H0]; · iexact H0
    iexact H1
  isplitl [H2]; · iexact H2
  iexact H3

omit [FloatOps F] in
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- All cells' names chosen at once, every device keeps the records and its own positions and tokens. -/
theorem regroup :
    (bigSep Finset.univ fun c : Dev nD => iprop((bigSep Finset.univ fun k : KC => iprop(∃ κ : ℕ, cellInv ER (Rd m ρ) κ (kcell (c, k))))
          ∗ (bigSep Finset.univ fun k : KC => iprop(atPos ER (kcell (c, k)) 0 ∅ 0 ∗ reached ER (kcell (c, k)) 0)) ∗ toks c) : sProp 𝕄)
      ⊢ bigSep Finset.univ (G' m ρ) := by
  simp only [bigSep_sep']
  rw [← bigSep_univ_prod (fun ck : Dev nD × KC => iprop(∃ κ : ℕ, cellInv ER (Rd m ρ) κ (kcell ck))),
    ← bigSep_univ_prod (fun ck : Dev nD × KC => (reached ER (kcell ck) 0 : sProp 𝕄))]
  iintro ⟨HI, ⟨Hat, #HR⟩, Htok⟩
  ihave HK := (BI.bigSep_exists_pi Finset.univ (fun (ck : Dev nD × KC) (κ : ℕ) => (cellInv ER (Rd m ρ) κ (kcell ck) : sProp 𝕄))) $$ HI
  icases HK with ⟨%K, #HI⟩
  ihave Htk := (toks_around (F := F)) $$ Htok
  have hg (c : Dev nD) : iprop(records m ρ K ∗ linear c) ⊢ G' m ρ c := by
    unfold G'
    iintro H
    iexists K
    iexact H
  iapply (with_persistent (R := records m ρ K) fun c _ => hg c)
  isplitr
  · unfold records; isplitl; · iexact HI
    iexact HR
  · unfold linear
    simp only [bigSep_sep']
    isplitl [Hat]; · iexact Hat
    iexact Htk

/-- The one global step of the launch. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => alloc m ρ c).trans (bigSep_fupd _ _)).trans (BI.fupd_mono (regroup m ρ))

omit [FloatOps F] in
/-- What the devices owe one another is what each waits with. -/
theorem credits_intro (c : Dev nD) : (Pipeline.launchCred O₀ c : sProp 𝕄) ⊢ credits c := by
  have h0 (d : Dev nD) : owedFrom d 0 = ∑ i : Fin 12, tallyAt (recvCell (tgt d (dOf i)) i) () N := by
    unfold owedFrom; rw [show (Finset.univ.filter fun i : Fin 12 => 0 ≤ i.val) = Finset.univ by decide]
  have hO : O₀ = fun d => ((∑ i : Fin 12, tallyAt (recvCell (tgt d (dOf i)) i) () N) + tallyAt (barCell (nxt d)) () 1) + tallyAt (barCell (prv d)) () 1 :=
    funext fun d => by unfold O₀ owedSig; rw [h0]
  have h2 : (tallyAt (barCell c) () 2 : CellTallies nD τ sig Unit) = tallyAt (barCell c) () 1 + tallyAt (barCell c) () 1 := by
    exact (tallyAt_add (barCell c) () 1 1).symm
  have hn : (Pipeline.launchCred (fun d : Dev nD => (tallyAt (barCell (nxt d)) () 1 : CellTallies nD τ sig Unit)) c : sProp 𝕄) ⊢ cred (tallyAt (barCell c) () 1) :=
    Pipeline.launchCred_tallyAt (.reg barS) nxt prv nxt_prv prv_nxt () 1 c
  have hp : (Pipeline.launchCred (fun d : Dev nD => (tallyAt (barCell (prv d)) () 1 : CellTallies nD τ sig Unit)) c : sProp 𝕄) ⊢ cred (tallyAt (barCell c) () 1) :=
    Pipeline.launchCred_tallyAt (.reg barS) prv nxt prv_nxt nxt_prv () 1 c
  have hr (i : Fin 12) : (Pipeline.launchCred (fun d : Dev nD => (tallyAt (recvCell (tgt d (dOf i)) i) () N : CellTallies nD τ sig Unit)) c : sProp 𝕄)
      ⊢ cred (tallyAt (recvCell c i) () N) :=
    Pipeline.launchCred_tallyAt (.dma (recvQ i)) (fun d => tgt d (dOf i)) (fun d => src d (dOf i)) (fun d => tgt_src d _) (fun d => src_tgt d _) () N c
  rw [hO, Pipeline.launchCred_add, Pipeline.launchCred_add, Pipeline.launchCred_sum]
  unfold credits
  rw [h2]
  iintro ⟨⟨Hr, Hn⟩, Hp⟩
  isplitl [Hn Hp]
  · iapply (cred_add _ _).2
    isplitl [Hn]
    · iapply hn; iexact Hn
    · iapply hp; iexact Hp
  iapply (show (bigSep Finset.univ fun i : Fin 12 => Pipeline.launchCred (fun d : Dev nD => (tallyAt (recvCell (tgt d (dOf i)) i) () N : CellTallies nD τ sig Unit)) c : sProp 𝕄)
    ⊢ bigSep Finset.univ fun i : Fin 12 => cred (tallyAt (recvCell c i) () N) from bigSep_mono fun i _ => hr i)
  iexact Hr

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (credits_intro (F := F) c) $$ Hcr
  imodintro
  unfold start
  isplitl
  · isplitl [HG]; · iexact HG
    isplitl [Hc] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratches
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scratches zeros
  have hz : (iprop(semVal (barCell c) 0 ∗ (bigSep Finset.univ fun i : Fin 12 => semVal (sendCell c i) 0) ∗ (bigSep Finset.univ fun i : Fin 12 => semVal (recvCell c i) 0)) : sProp 𝕄)
      = iprop(unscopedSems0 c ∗ Pipeline.ownSems0 (Ix := Unit) (Name := ℕ) (U := UU) (Lvl := ℕ) (Val := Elt F) (τ := τ) osem c) := by
    rw [sems_eq, per_kind]
  iintro ⟨Hr, Hz⟩
  ihave Hz' := (Entails.of_eq hz) $$ Hz
  icases Hz' with ⟨H1, H2⟩
  isplitl [H1]; · iexact H1
  isplitl [H2]; · iexact H2
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run of @main -/

def finalA (c : Dev nD) (w : Fin cfg0.W) : Buf (Elt F) ((cfg0.win w).arr.view.loc (c : Thread nD τ)) := (dats m ρ 0 c).arrAt w cfg0.N

set_option maxRecDepth 100000 in
/-- From any memory with zero counters, on four devices, for any float values: every weakly fair execution of @main
    terminates without a fault; each window's array ends at `finalA`, every semaphore counter at zero. -/
theorem run_main : θ_run defs (onTc (τ := τ) (main (F := F))) (s₀ m ρ)
    (fun r => (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- Every input array ends as it was. -/
theorem finalA_in (c : Dev nD) (w : Fin cfg0.W) (hw : (cfg0.win w).isOut = false) :
    finalA m ρ c w = m ((cfg0.win w).arr.view.loc (c : Thread nD τ)) :=
  (dats m ρ 0 c).arrAt_in w hw _

end Cert.Attn

end
-- ==== Proof.Frames.lean ====
/-
# 01_k — `Frames`: each program terminates, leaves its arguments alone and every counter at zero

Both kernel frames are `Launch.run_main` with the values dropped: the two programs have the same text, so one run serves
the words and the extended reals. The reference declares no semaphore, and its run is a sequence of array operations.
-/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run

@[expose] public section

noncomputable section

namespace Cert.Attn

open Cert.KernelIdeal Cert.KernelIdeal.Gen
open Idealize.ShloMosaic Idealize.SL.Sem
open Idealize.ShloMosaic.TcCoe

variable {F : FTy → Type} [FloatOps F]

/-- After the run, over any float values: the arguments are what they were and every counter is zero. -/
theorem run_args (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
      ⟨(h.1 c (0 : Fin 6)).trans (finalA_in m ρ c 0 rfl), (h.1 c (1 : Fin 6)).trans (finalA_in m ρ c 1 rfl),
        (h.1 c (2 : Fin 6)).trans (finalA_in m ρ c 2 rfl), (h.1 c (3 : Fin 6)).trans (finalA_in m ρ c 3 rfl),
        (h.1 c (4 : Fin 6)).trans (finalA_in m ρ c 4 rfl)⟩, h.2⟩)
    (run_main m ρ)

set_option maxRecDepth 100000 in
/-- The kernel's body table is the ideal kernel's: the two texts are the same, operation by operation. -/
theorem table_eq : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) => rfl

/-- The run at any body table that is the ideal kernel's. -/
theorem run_table (D : Defs nD τ sig (Elt Bits) Λ₀) (h : D = defs₀)
    (m : (ℓ : Loc nD τ sig) → Buf (Elt Bits) ℓ) (ρ : Dev nD → PrngReg) :
    θ_run (Pipeline.defs pcfgs D) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  subst h
  exact run_args m ρ

/-- The kernel's frame, over words. -/
theorem frame_kernel : Cert.quiescent_Kernel := fun m ρ _ => run_table Cert.Kernel.defs₀ table_eq m ρ

/-- The ideal kernel's frame, over the extended reals. -/
theorem frame_ideal : Cert.quiescent_KernelIdeal := fun m ρ _ => run_args (F := Ideal) m ρ

/-- The reference's run on its one device: the value of its result, its arguments unchanged, its counters zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Attn

end
-- ==== Proof.Terms.lean ====
module

public import proofs.«01_k».proof.Proof.Launch

@[expose] public section

/-!
# What the body computes, block by block

The symbolic run of the body leaves its result as a term with one subterm per block (batch, hop, head).  Here the same values are
written once for a block `(d, h, hd)`, and the run's terms are shown to be these.
-/

noncomputable section

namespace Cert.Attn

open Cert.KernelIdeal Cert.KernelIdeal.Gen

open Idealize.ShloMosaic
open Idealize.ShloMosaic.TcCoe
open Idealize.SL Idealize.SL.Sem

variable {F : FTy → Type} [FloatOps F]

variable (m : (ℓ : Loc nD τ sig) → Buf (Elt F) ℓ) (ρ : Dev nD → PrngReg)

/-- The block of the weights buffer of batch `d` and head `hd`. -/
abbrev wBox (d : Fin 2) (hd : Fin 8) : Rect S2x512x4096 :=
  Rect.unit ![d.val, 0, 512 * hd.val] S1x512x512.size (by revert d hd; decide)
/-- The block of the accumulator, and of the context, of batch `d` and head `hd`. -/
abbrev aBox (d : Fin 2) (hd : Fin 8) : Rect S1024x512 :=
  Rect.unit ![512 * d.val, 64 * hd.val] S512x64.size (by revert d hd; decide)
/-- Head `hd` of slot `(d, h, k)`. -/
abbrev sBox (d : Fin 2) (h : Fin 4) (k : Fin 2) (hd : Fin 8) : Rect S2x4x2x512x512 :=
  Rect.unit ![d.val, h.val, k.val, 0, 64 * hd.val] S1x1x1x512x64.size (by revert d h k hd; decide)

/-- Keys (`k = 0`) or values (`k = 1`) of batch `d` and head `hd` that device `c` holds at hop `h`. -/
def kv (c : Dev nD) (d : Fin 2) (h : Fin 4) (k : Fin 2) (hd : Fin 8) : FVec F S512x64 .bf16 :=
  extf .bf16 (shapeCast S512x64 (View.readAt (Elt F) commM.view (sBox d h k hd).toLoadRect (commG m ρ c)) shapeCasts_S1x1x1x512x64_S512x64)
    bitsLt_fp8e4m3_bf16

/-- The mask against the keys that came from `k` devices to the left. -/
def maskFor (c : Dev nD) (k : BitVec 32) : IVec S512x512 1 :=
  have kb : IVec S1x512 32 := addi (broadcast S1x512 (Scalar.muli (Scalar.remsi (Scalar.addi (Scalar.subi (run.sl.v2 c) k) 4#32) 4#32) 8#32)) run.sl.v148
  ori
    (ori (cmpi .eq (broadcastTo S512x512 (run.sl.v117 c) broadcasts_S512x1_S512x512) (broadcastTo S512x512 kb broadcasts_S1x512_S512x512))
      (broadcastTo S512x512 (cmpi .eq kb (broadcast S1x512 0#32)) broadcasts_S1x512_S512x512))
    (cmpi .eq (broadcastTo S512x512 (remsi kb (broadcast S1x512 3#32)) broadcasts_S1x512_S512x512)
      (broadcastTo S512x512 (run.sl.v123 c) broadcasts_S512x1_S512x512))

/-- How far to the left the keys of batch `d` at hop `h` started. -/
def far (d : Fin 2) (h : Fin 4) : BitVec 32 :=
  match d, h with
  | 0, 0 => 0#32 | 0, 1 => 1#32 | 0, 2 => 2#32 | 0, 3 => 3#32
  | 1, 0 => 0#32 | 1, 1 => 3#32 | 1, 2 => 2#32 | 1, 3 => 1#32

/-- The weights of block `(d, h, hd)`. -/
def wBlk (c : Dev nD) (d : Fin 2) (h : Fin 4) (hd : Fin 8) : FVec F S512x512 .bf16 :=
  select (maskFor c (far d h))
    (exp (truncf .bf16 (matmul dot_S512x64_S512x64_S512x512_1_1_0_0_n_n none
      (extractStridedSlice S512x64 ![512 * d.val, 64 * hd.val] (run.sl.v89 m ρ c) (by revert d hd; decide))
      (kv m ρ c d h 0 hd) (constant S512x512 .f32 0x00000000#32)) bitsLt_bf16_f32))
    (broadcast S512x512 (Scalar.ofBits .bf16 0x0000#16))

/-- The weights' row sums of block `(d, h, hd)`, -/
def rowSum (c : Dev nD) (d : Fin 2) (h : Fin 4) (hd : Fin 8) : FVec F S512x1 .f32 :=
  shapeCast S512x1 (multiReduction .add [1] S512 (extf .f32 (wBlk m ρ c d h hd) bitsLt_bf16_f32) 0x00000000#32 reduces_S512x512_S512 (.inl rfl) rfl)
    shapeCasts_S512_S512x1
/-- and their sum over the hops. -/
def den (c : Dev nD) (d : Fin 2) (hd : Fin 8) : FVec F S512x1 .f32 :=
  addf (addf (addf (rowSum m ρ c d 0 hd) (rowSum m ρ c d 1 hd)) (rowSum m ρ c d 2 hd)) (rowSum m ρ c d 3 hd)

/-- The blocks in the order the body visits them. -/
abbrev blocks : List (Fin 2 × Fin 8) :=
  [(0, 0), (0, 1), (0, 2), (0, 3), (0, 4), (0, 5), (0, 6), (0, 7), (1, 0), (1, 1), (1, 2), (1, 3), (1, 4), (1, 5), (1, 6), (1, 7)]

/-- The writes to the weights buffer in hop `h`, after the writes `L`. -/
def wRow (c : Dev nD) (h : Fin 4) (L : List (View.Piece (Elt F) S2x512x4096 .bf16)) : List (View.Piece (Elt F) S2x512x4096 .bf16) :=
  blocks.foldl (fun L x => ⟨wBox x.1 x.2, shapeCast S1x512x512 (wBlk m ρ c x.1 h x.2) shapeCasts_S512x512_S1x512x512⟩ :: L) L

/-- The writes to the weights buffer up to hop `h`. -/
def wAll (c : Dev nD) (h : Fin 4) : List (View.Piece (Elt F) S2x512x4096 .bf16) :=
  match h with
  | 0 => wRow m ρ c 0 []
  | 1 => wRow m ρ c 1 (wRow m ρ c 0 [])
  | 2 => wRow m ρ c 2 (wRow m ρ c 1 (wRow m ρ c 0 []))
  | 3 => wRow m ρ c 3 (wRow m ρ c 2 (wRow m ρ c 1 (wRow m ρ c 0 [])))

/-- The weights of block `(d, h, hd)` as they are read back, against the values. -/
def pv (c : Dev nD) (d : Fin 2) (h : Fin 4) (hd : Fin 8) : FVec F S512x64 .f32 :=
  matmul dot_S512x512_S512x64_S512x64_1_0_0_1_n_n none
    (shapeCast S512x512 (View.readCov (Memref.whole cc0_scratch3).view (wAll m ρ c h) (wBox d hd).toLoadRect) shapeCasts_S1x512x512_S512x512)
    (kv m ρ c d h 1 hd) (constant S512x64 .f32 0x00000000#32)

/-- The accumulator's writes in hop 0, -/
def aRow0 (c : Dev nD) : List (View.Piece (Elt F) S1024x512 .f32) :=
  blocks.foldl (fun L x => ⟨aBox x.1 x.2, shapeCast S512x64 (pv m ρ c x.1 0 x.2) shapeCasts_S512x64_S512x64⟩ :: L) []
/-- one write in a later hop `h`, after the writes `L`, -/
def aPut (c : Dev nD) (h : Fin 4) (L : List (View.Piece (Elt F) S1024x512 .f32)) (x : Fin 2 × Fin 8) : List (View.Piece (Elt F) S1024x512 .f32) :=
  ⟨aBox x.1 x.2, shapeCast S512x64
    (addf (View.readCov (Memref.whole cc0_scratch1).view L (aBox x.1 x.2).toLoadRect) (pv m ρ c x.1 h x.2)) shapeCasts_S512x64_S512x64⟩ :: L

theorem acc17 (c : Dev nD) : run.sl.Hacc_17 m ρ c = aPut m ρ c 1 (aRow0 m ρ c) (0, 0) := rfl
/-- The accumulator's writes as the run has them, after `i` writes of a later hop `h`. -/
def accAt (c : Dev nD) (h : Fin 4) (i : ℕ) : List (View.Piece (Elt F) S1024x512 .f32) :=
  match h, i with
  | 1, 0 => aRow0 m ρ c
  | 1, 1 => run.sl.Hacc_17 m ρ c
  | 1, 2 => run.sl.Hacc_18 m ρ c
  | 1, 3 => run.sl.Hacc_19 m ρ c
  | 1, 4 => run.sl.Hacc_20 m ρ c
  | 1, 5 => run.sl.Hacc_21 m ρ c
  | 1, 6 => run.sl.Hacc_22 m ρ c
  | 1, 7 => run.sl.Hacc_23 m ρ c
  | 1, 8 => aPut m ρ c 1 (run.sl.Hacc_23 m ρ c) (0, 7)
  | 1, 9 => run.sl.Hacc_25 m ρ c
  | 1, 10 => run.sl.Hacc_26 m ρ c
  | 1, 11 => run.sl.Hacc_27 m ρ c
  | 1, 12 => run.sl.Hacc_28 m ρ c
  | 1, 13 => run.sl.Hacc_29 m ρ c
  | 1, 14 => run.sl.Hacc_30 m ρ c
  | 1, 15 => run.sl.Hacc_31 m ρ c
  | 1, 16 => aPut m ρ c 1 (run.sl.Hacc_31 m ρ c) (1, 7)
  | 2, 0 => aPut m ρ c 1 (run.sl.Hacc_31 m ρ c) (1, 7)
  | 2, 1 => run.sl.Hacc_33 m ρ c
  | 2, 2 => run.sl.Hacc_34 m ρ c
  | 2, 3 => run.sl.Hacc_35 m ρ c
  | 2, 4 => run.sl.Hacc_36 m ρ c
  | 2, 5 => run.sl.Hacc_37 m ρ c
  | 2, 6 => run.sl.Hacc_38 m ρ c
  | 2, 7 => run.sl.Hacc_39 m ρ c
  | 2, 8 => aPut m ρ c 2 (run.sl.Hacc_39 m ρ c) (0, 7)
  | 2, 9 => run.sl.Hacc_41 m ρ c
  | 2, 10 => run.sl.Hacc_42 m ρ c
  | 2, 11 => run.sl.Hacc_43 m ρ c
  | 2, 12 => run.sl.Hacc_44 m ρ c
  | 2, 13 => run.sl.Hacc_45 m ρ c
  | 2, 14 => run.sl.Hacc_46 m ρ c
  | 2, 15 => run.sl.Hacc_47 m ρ c
  | 2, 16 => aPut m ρ c 2 (run.sl.Hacc_47 m ρ c) (1, 7)
  | 3, 0 => aPut m ρ c 2 (run.sl.Hacc_47 m ρ c) (1, 7)
  | 3, 1 => run.sl.Hacc_49 m ρ c
  | 3, 2 => run.sl.Hacc_50 m ρ c
  | 3, 3 => run.sl.Hacc_51 m ρ c
  | 3, 4 => run.sl.Hacc_52 m ρ c
  | 3, 5 => run.sl.Hacc_53 m ρ c
  | 3, 6 => run.sl.Hacc_54 m ρ c
  | 3, 7 => run.sl.Hacc_55 m ρ c
  | 3, 8 => aPut m ρ c 3 (run.sl.Hacc_55 m ρ c) (0, 7)
  | 3, 9 => run.sl.Hacc_57 m ρ c
  | 3, 10 => run.sl.Hacc_58 m ρ c
  | 3, 11 => run.sl.Hacc_59 m ρ c
  | 3, 12 => run.sl.Hacc_60 m ρ c
  | 3, 13 => run.sl.Hacc_61 m ρ c
  | 3, 14 => run.sl.Hacc_62 m ρ c
  | 3, 15 => run.sl.Hacc_63 m ρ c
  | 3, 16 => run.sl.Hacc_64 m ρ c
  | _, _ => []

set_option maxHeartbeats 4000000 in
theorem accAt_one (c : Dev nD) : ∀ i : Fin 16, accAt m ρ c 1 (i.val + 1) = aPut m ρ c 1 (accAt m ρ c 1 i.val) (blocks[i]) := by
  intro i; fin_cases i <;> rfl

set_option maxHeartbeats 4000000 in
theorem accAt_two (c : Dev nD) : ∀ i : Fin 16, accAt m ρ c 2 (i.val + 1) = aPut m ρ c 2 (accAt m ρ c 2 i.val) (blocks[i]) := by
  intro i; fin_cases i <;> rfl

set_option maxHeartbeats 4000000 in
theorem accAt_three (c : Dev nD) : ∀ i : Fin 16, accAt m ρ c 3 (i.val + 1) = aPut m ρ c 3 (accAt m ρ c 3 i.val) (blocks[i]) := by
  intro i; fin_cases i <;> rfl

/-- The context's writes: the accumulator over the weights' sums. -/
def ctxAll (c : Dev nD) : List (View.Piece (Elt F) S1024x512 .bf16) :=
  blocks.foldl (fun L x => ⟨aBox x.1 x.2, shapeCast S512x64 (truncf .bf16
    (divf (View.readCov (Memref.whole cc0_scratch1).view (accAt m ρ c 3 16) (aBox x.1 x.2).toLoadRect)
      (broadcastTo S512x64 (den m ρ c x.1 x.2) broadcasts_S512x1_S512x64)) bitsLt_bf16_f32) shapeCasts_S512x64_S512x64⟩ :: L) []

theorem ctx_eq (c : Dev nD) : run.sl.Hctx_16 m ρ c = ctxAll m ρ c := rfl

theorem outAt_eq (c : Dev nD) : outAt m ρ c = k0_pay3
    (View.readCov (Memref.whole cc0_scratch2).view (run.sl.Hctx_16 m ρ c) (Rect.unit ![0, 0] S1024x512.size (by decide)).toLoadRect)
    (View.readAt (Elt F) (Memref.whole cc0_stg4_0).view (Rect.unit ![0, 0] S512x768.size (by decide)).toLoadRect (wostg m ρ c)) := rfl

end Cert.Attn
-- ==== Proof.Reads.lean ====
module

public import proofs.«01_k».proof.Proof.Terms
public import Idealize.ShloMosaic.Lib.Pipeline.FrameBody
public import Idealize.ShloMosaic.Lib.Pipeline.Value

@[expose] public section

/-!
# What the body reads back from its scratch buffers

The buffers are written block by block.  A block reads back its last write, whatever was written to the other blocks.
-/

noncomputable section

namespace Cert.Attn

open Cert.KernelIdeal Cert.KernelIdeal.Gen

open Idealize.ShloMosaic
open Idealize.ShloMosaic.TcCoe
open Idealize.SL Idealize.SL.Sem

variable {F : FTy → Type} [FloatOps F]

variable (m : (ℓ : Loc nD τ sig) → Buf (Elt F) ℓ) (ρ : Dev nD → PrngReg)

theorem wBox_disj {x y : Fin 2 × Fin 8} (h : x ≠ y) : Disjoint (wBox x.1 x.2).set (wBox y.1 y.2).set := by
  refine Finset.disjoint_left.mpr fun i hx hy => h ?_
  rw [Rect.mem_set_unit] at hx hy
  have hx0 : x.1.val ≤ (i 0).val ∧ (i 0).val < x.1.val + 1 := hx 0
  have hx2 : 512 * x.2.val ≤ (i 2).val ∧ (i 2).val < 512 * x.2.val + 512 := hx 2
  have hy0 : y.1.val ≤ (i 0).val ∧ (i 0).val < y.1.val + 1 := hy 0
  have hy2 : 512 * y.2.val ≤ (i 2).val ∧ (i 2).val < 512 * y.2.val + 512 := hy 2
  exact Prod.ext (Fin.ext (by omega)) (Fin.ext (by omega))

theorem aBox_disj {x y : Fin 2 × Fin 8} (h : x ≠ y) : Disjoint (aBox x.1 x.2).set (aBox y.1 y.2).set := by
  refine Finset.disjoint_left.mpr fun i hx hy => h ?_
  rw [Rect.mem_set_unit] at hx hy
  have hx0 : 512 * x.1.val ≤ (i 0).val ∧ (i 0).val < 512 * x.1.val + 512 := hx 0
  have hx1 : 64 * x.2.val ≤ (i 1).val ∧ (i 1).val < 64 * x.2.val + 64 := hx 1
  have hy0 : 512 * y.1.val ≤ (i 0).val ∧ (i 0).val < 512 * y.1.val + 512 := hy 0
  have hy1 : 64 * y.2.val ≤ (i 1).val ∧ (i 1).val < 64 * y.2.val + 64 := hy 1
  exact Prod.ext (Fin.ext (by omega)) (Fin.ext (by omega))

/-- A sweep over distinct disjoint boxes: each box reads its own write, the others what they read before. -/
theorem sweep_read {s : Shape} {e : EltTy} {sig : RefSig} {κ : Kind} {sp : Space} {I : Type} [DecidableEq I] (v : View sig κ sp s e) (box : I → Rect s)
    (hd : ∀ {x y}, x ≠ y → Disjoint (box x).set (box y).set) (w : (x : I) → (box x).shape.Idx → Elt F e) (y : I) :
    ∀ (xs : List I), xs.Nodup → ∀ L : List (View.Piece (Elt F) s e),
      View.readCov v (xs.foldl (fun L x => ⟨box x, w x⟩ :: L) L) (box y).toLoadRect
        = if y ∈ xs then w y else View.readCov v L (box y).toLoadRect := by
  intro xs
  induction xs with
  | nil => intro _ L; simp
  | cons x xs ih =>
    intro hn L
    rw [List.foldl_cons, ih (List.nodup_cons.mp hn).2]
    by_cases hy : y ∈ xs
    · rw [if_pos hy, if_pos (List.mem_cons_of_mem _ hy)]
    · rw [if_neg hy]
      by_cases hxy : x = y
      · subst hxy
        rw [if_pos List.mem_cons_self, View.readCov_cons_toLoadRect]
      · rw [if_neg (by simp [hy, Ne.symm hxy]), View.readCov_cons_of_disjoint]
        exact hd hxy

theorem blocks_nodup : blocks.Nodup := by decide
theorem mem_blocks (x : Fin 2 × Fin 8) : x ∈ blocks := by revert x; decide

theorem wRow_read (c : Dev nD) (h : Fin 4) (L) (d : Fin 2) (hd : Fin 8) :
    View.readCov (Memref.whole cc0_scratch3).view (wRow m ρ c h L) (wBox d hd).toLoadRect
      = shapeCast S1x512x512 (wBlk m ρ c d h hd) shapeCasts_S512x512_S1x512x512 :=
  (sweep_read (F := F) (Memref.whole cc0_scratch3).view (fun x : Fin 2 × Fin 8 => wBox x.1 x.2) wBox_disj
    (fun x => shapeCast S1x512x512 (wBlk m ρ c x.1 h x.2) shapeCasts_S512x512_S1x512x512) (d, hd) blocks blocks_nodup L).trans
    (if_pos (mem_blocks (d, hd)))

/-- The weights of hop `h` read back. -/
theorem wAll_read (c : Dev nD) (h : Fin 4) (d : Fin 2) (hd : Fin 8) :
    View.readCov (Memref.whole cc0_scratch3).view (wAll m ρ c h) (wBox d hd).toLoadRect
      = shapeCast S1x512x512 (wBlk m ρ c d h hd) shapeCasts_S512x512_S1x512x512 := by
  match h with
  | 0 | 1 | 2 | 3 => exact wRow_read m ρ c _ _ d hd

/-- One step of the accumulator in a later hop. -/
theorem aPut_read (c : Dev nD) (h : Fin 4) (L) (x y : Fin 2 × Fin 8) :
    View.readCov (Memref.whole cc0_scratch1).view (aPut m ρ c h L x) (aBox y.1 y.2).toLoadRect
      = if x = y then addf (View.readCov (Memref.whole cc0_scratch1).view L (aBox y.1 y.2).toLoadRect) (pv m ρ c y.1 h y.2)
        else View.readCov (Memref.whole cc0_scratch1).view L (aBox y.1 y.2).toLoadRect := by
  unfold aPut
  by_cases hxy : x = y
  · subst hxy
    rw [if_pos rfl, View.readCov_cons_toLoadRect]
    exact shapeCast_self _ _
  · rw [if_neg hxy, View.readCov_cons_of_disjoint]
    exact aBox_disj hxy

/-- A later hop adds its products to every block. -/
theorem hop_read (c : Dev nD) (h : Fin 4) (Ls : ℕ → List (View.Piece (Elt F) S1024x512 .f32))
    (step : ∀ i : Fin 16, Ls (i.val + 1) = aPut m ρ c h (Ls i.val) (blocks[i])) (d : Fin 2) (hd : Fin 8) :
    View.readCov (Memref.whole cc0_scratch1).view (Ls 16) (aBox d hd).toLoadRect
      = addf (View.readCov (Memref.whole cc0_scratch1).view (Ls 0) (aBox d hd).toLoadRect) (pv m ρ c d h hd) := by
  have key : ∀ n, n ≤ 16 → View.readCov (Memref.whole cc0_scratch1).view (Ls n) (aBox d hd).toLoadRect
      = if 8 * d.val + hd.val < n then addf (View.readCov (Memref.whole cc0_scratch1).view (Ls 0) (aBox d hd).toLoadRect) (pv m ρ c d h hd)
        else View.readCov (Memref.whole cc0_scratch1).view (Ls 0) (aBox d hd).toLoadRect := by
    intro n
    induction n with
    | zero => intro _; simp
    | succ n ih =>
      intro hn
      have hb : (blocks[(⟨n, hn⟩ : Fin 16)] = (d, hd)) ↔ 8 * d.val + hd.val = n := by
        have : ∀ i : Fin 16, ∀ d : Fin 2, ∀ hd : Fin 8, (blocks[i] = (d, hd)) ↔ 8 * d.val + hd.val = i.val := by decide
        exact this ⟨n, hn⟩ d hd
      have h1 := aPut_read m ρ c h (Ls n) (blocks[(⟨n, hn⟩ : Fin 16)]) (d, hd)
      rw [show Ls (n + 1) = _ from step ⟨n, hn⟩]
      refine h1.trans ?_
      rw [ih (by omega)]
      by_cases e : 8 * d.val + hd.val = n
      · rw [if_pos (hb.mpr e), if_neg (by omega), if_pos (by omega)]
      · rw [if_neg (fun h => e (hb.mp h))]
        by_cases l : 8 * d.val + hd.val < n
        · rw [if_pos l, if_pos (by omega)]
        · rw [if_neg l, if_neg (by omega)]
  rw [key 16 le_rfl, if_pos (by have := d.isLt; have := hd.isLt; omega)]

/-- What a block of the accumulator ends as. -/
theorem acc_read (c : Dev nD) (d : Fin 2) (hd : Fin 8) :
    View.readCov (Memref.whole cc0_scratch1).view (accAt m ρ c 3 16) (aBox d hd).toLoadRect
      = addf (addf (addf (pv m ρ c d 0 hd) (pv m ρ c d 1 hd)) (pv m ρ c d 2 hd)) (pv m ρ c d 3 hd) := by
  have h0 : View.readCov (Memref.whole cc0_scratch1).view (accAt m ρ c 1 0) (aBox d hd).toLoadRect = pv m ρ c d 0 hd :=
    ((sweep_read (F := F) (Memref.whole cc0_scratch1).view (fun x : Fin 2 × Fin 8 => aBox x.1 x.2) aBox_disj
      (fun x => shapeCast S512x64 (pv m ρ c x.1 0 x.2) shapeCasts_S512x64_S512x64) (d, hd) blocks blocks_nodup []).trans
      (if_pos (mem_blocks (d, hd)))).trans (shapeCast_self _ _)
  have h1 := hop_read m ρ c 1 (accAt m ρ c 1) (accAt_one m ρ c) d hd
  have h2 := hop_read m ρ c 2 (accAt m ρ c 2) (accAt_two m ρ c) d hd
  have h3 := hop_read m ρ c 3 (accAt m ρ c 3) (accAt_three m ρ c) d hd
  rw [h3]
  refine congrArg (fun X => addf X _) (h2.trans (congrArg (fun X => addf X _) (h1.trans (congrArg (fun X => addf X _) h0))))

/-- The context of block `(d, hd)`. -/
def ctxBlk (c : Dev nD) (d : Fin 2) (hd : Fin 8) : FVec F S512x64 .bf16 :=
  truncf .bf16 (divf (addf (addf (addf (pv m ρ c d 0 hd) (pv m ρ c d 1 hd)) (pv m ρ c d 2 hd)) (pv m ρ c d 3 hd))
    (broadcastTo S512x64 (den m ρ c d hd) broadcasts_S512x1_S512x64)) bitsLt_bf16_f32

theorem ctx_read (c : Dev nD) (d : Fin 2) (hd : Fin 8) :
    View.readCov (Memref.whole cc0_scratch2).view (run.sl.Hctx_16 m ρ c) (aBox d hd).toLoadRect = ctxBlk m ρ c d hd := by
  rw [ctx_eq]
  refine ((sweep_read (F := F) (Memref.whole cc0_scratch2).view (fun x : Fin 2 × Fin 8 => aBox x.1 x.2) aBox_disj _ (d, hd) blocks blocks_nodup []).trans
      (if_pos (mem_blocks (d, hd)))).trans ((shapeCast_self _ _).trans ?_)
  exact congrArg (fun X : FVec F S512x64 .f32 => truncf .bf16 (divf X (broadcastTo S512x64 (den m ρ c d hd) broadcasts_S512x1_S512x64)) bitsLt_bf16_f32)
    (acc_read m ρ c d hd)

/-- The context as a whole, entry by entry. -/
theorem ctx_whole (c : Dev nD) (d : Fin 2) (hd : Fin 8) (i : S512x64.Idx) (j : S1024x512.Idx)
    (h0 : (j 0).val = 512 * d.val + (i 0).val) (h1 : (j 1).val = 64 * hd.val + (i 1).val) :
    View.readCov (Memref.whole cc0_scratch2).view (run.sl.Hctx_16 m ρ c) (Rect.unit ![0, 0] S1024x512.size (by decide)).toLoadRect j
      = ctxBlk m ρ c d hd i := by
  rw [← ctx_read, View.readCov_eq_canon', View.readCov_eq_canon']
  refine congrArg _ (funext fun a => Fin.ext ?_)
  match a with
  | 0 => show 0 + 1 * (j 0).val = 512 * d.val + 1 * (i 0).val; omega
  | 1 => show 0 + 1 * (j 1).val = 64 * hd.val + 1 * (i 1).val; omega

end Cert.Attn
-- ==== Proof.Mask.lean ====
module

public import proofs.«01_k».proof.Proof.Terms
public import Idealize.ShloMosaic.Lib.Pointwise

@[expose] public section

/-!
# Which keys a query attends to

A query in block `p` of 64 rows attends to a key in block `q` where the blocks are the same, where `q` is the first one, or where `p + q` is
a multiple of three.  The body computes this from the device's number, the hop and the positions within the block.
-/

noncomputable section

namespace Cert.Attn

open Cert.KernelIdeal Cert.KernelIdeal.Gen

open Idealize.ShloMosaic
open Idealize.ShloMosaic.TcCoe

/-- Query row `i` attends to key row `j`. -/
def att (i j : ℕ) : Prop := i / 64 = j / 64 ∨ j / 64 = 0 ∨ (i / 64 + j / 64) % 3 = 0

instance (i j : ℕ) : Decidable (att i j) := by unfold att; infer_instance

/-- The key's block within its device. -/
theorem colBlk (col : Fin 512) : run.sl.v148 (ix2 0 col) = BitVec.ofNat 32 (col.val / 64) := by
  unfold run.sl.v148
  pointwise [k0_pay17, run.sl.v124, run.sl.v125, run.sl.v127, run.sl.v129, run.sl.v132, run.sl.v139, run.sl.v140]
  revert col
  decide +kernel

/-- The query's block within its device, -/
theorem rowOfs (r : Fin 512) : run.sl.v114 (ix2 r 0) = BitVec.ofNat 32 (r.val / 64) := by
  unfold run.sl.v114
  pointwise [run.sl.v106, run.sl.v110, run.sl.v105, run.sl.v107, run.sl.v96, run.sl.v98, run.sl.v90, k0_pay10, k0_pay11]
  revert r
  decide +kernel

/-- and among all. -/
theorem rowBlk (c : Dev nD) (r : Fin 512) : run.sl.v117 c (ix2 r 0) = BitVec.ofNat 32 (8 * c.val + r.val / 64) := by
  have h := rowOfs r
  unfold run.sl.v117
  pointwise [run.sl.v116, run.sl.v115, run.sl.v2, run.sl.v1, h]
  have : ∀ (c : Fin 4) (x : Fin 8), IntOp.addi (Scalar.muli (Scalar.remsi (Scalar.divsi (BitVec.ofNat 32 c.val) 1#32) 4#32) 8#32) (BitVec.ofNat 32 x.val)
      = BitVec.ofNat 32 (8 * c.val + x.val) := by decide +kernel
  exact this c ⟨r.val / 64, by omega⟩

/-- What the key's block must leave modulo three. -/
theorem rowNeed (c : Dev nD) (r : Fin 512) : run.sl.v123 c (ix2 r 0) = BitVec.ofNat 32 ((3 - (8 * c.val + r.val / 64) % 3) % 3) := by
  have h := rowBlk c r
  unfold run.sl.v123
  pointwise [run.sl.v121, run.sl.v119, run.sl.v118, h]
  have : ∀ x : Fin 32, IntOp.remsi .vector (IntOp.subi 3#32 (IntOp.remsi .vector (BitVec.ofNat 32 x.val) 3#32)) 3#32
      = BitVec.ofNat 32 ((3 - x.val % 3) % 3) := by decide +kernel
  exact this ⟨8 * c.val + r.val / 64, by have : c.val < 4 := c.isLt; omega⟩

/-- The key's block among all: the device the keys started at, from the device's own number and the distance. -/
theorem keyBlk : ∀ (c : Fin 4) (d : Fin 2) (h : Fin 4) (x : Fin 8),
    IntOp.addi (Scalar.muli (Scalar.remsi (Scalar.addi (Scalar.subi (Scalar.remsi (Scalar.divsi (BitVec.ofNat 32 c.val) 1#32) 4#32) (far d h)) 4#32) 4#32) 8#32)
      (BitVec.ofNat 32 x.val) = BitVec.ofNat 32 (8 * (org c d h).val + x.val) := by decide +kernel

/-- The three conditions, for blocks `p` and `q` of 32. -/
theorem bits_att : ∀ p q : Fin 32,
    IntOp.ori (IntOp.ori (IntOp.cmpi .eq (BitVec.ofNat 32 p.val) (BitVec.ofNat 32 q.val)) (IntOp.cmpi .eq (BitVec.ofNat 32 q.val) 0#32))
      (IntOp.cmpi .eq (IntOp.remsi .vector (BitVec.ofNat 32 q.val) 3#32) (BitVec.ofNat 32 ((3 - p.val % 3) % 3)))
      = if p.val = q.val ∨ q.val = 0 ∨ (p.val + q.val) % 3 = 0 then 1#1 else 0#1 := by decide +kernel

/-- The body's mask of batch `d` at hop `h`. -/
theorem mask_apply (c : Dev nD) (d : Fin 2) (h : Fin 4) (r col : Fin 512) :
    maskFor c (far d h) (ix2 r col) = if att (512 * c.val + r.val) (512 * (org c d h).val + col.val) then 1#1 else 0#1 := by
  have h1 := rowBlk c r
  have h2 := rowNeed c r
  have h3 := colBlk col
  pointwise [maskFor, h1, h2, h3, run.sl.v2, run.sl.v1]
  have hc : c.val < 4 := c.isLt
  have ho : (org c d h).val < 4 := (org c d h).isLt
  have k1 := keyBlk c d h ⟨col.val / 64, by omega⟩
  have k2 := bits_att ⟨8 * c.val + r.val / 64, by omega⟩ ⟨8 * (org c d h).val + col.val / 64, by omega⟩
  dsimp only at k1 k2
  rw [k1, k2]
  refine if_congr ?_ rfl rfl
  unfold att
  rw [show (512 * c.val + r.val) / 64 = 8 * c.val + r.val / 64 by omega,
    show (512 * (org c d h).val + col.val) / 64 = 8 * (org c d h).val + col.val / 64 by omega]

end Cert.Attn
-- ==== Proof.KernelAt.lean ====
module

public import proofs.«01_k».proof.Proof.Reads
public import proofs.«01_k».proof.Proof.Mask

@[expose] public section

/-!
# The body's values over the extended reals, entry by entry
-/

noncomputable section

namespace Cert.Attn

open Cert.KernelIdeal Cert.KernelIdeal.Gen

open Idealize.ShloMosaic
open Idealize.ShloMosaic.TcCoe

variable (m : (ℓ : Loc nD τ sig) → Buf (Elt Ideal) ℓ) (ρ : Dev nD → PrngReg)

/-- The staged arrays of device `c` as functions of their indices. -/
def xE (c : Dev nD) : S2x512x768.Idx → EReal := xstg m ρ c
def wqE (c : Dev nD) : S768x512.Idx → EReal := wqstg m ρ c
def kE (c : Dev nD) : S2x512x8x64.Idx → EReal := kstg m ρ c
def vE (c : Dev nD) : S2x512x8x64.Idx → EReal := vstg m ρ c
def woE (c : Dev nD) : S512x768.Idx → EReal := wostg m ρ c

/-- A query entry: the projection, scaled. -/
def qry (c : Dev nD) (d : Fin 2) (r : Fin 512) (t : Fin 512) : EReal :=
  (∑ e : Fin 768, xE m ρ c (ix3 d r e) * wqE m ρ c (ix2 e t)) * Ideal.ofBits .f32 0x3E000000#32

theorem x_load (c : Dev nD) (a : Fin 2) (b : Fin 512) (e : Fin 768) (hb) :
    View.readAt (Elt Ideal) (View.whole cc0_stg0_0) (Rect.unit (s := S2x512x768) ![0, 0, 0] ![2, 512, 768] hb).toLoadRect (xstg m ρ c) (ix3 a b e)
      = xE m ρ c (ix3 a b e) := by
  refine congrArg (xstg m ρ c) (funext fun x => Fin.ext ?_)
  match x with
  | 0 => show 0 + 1 * a.val = a.val; omega
  | 1 => show 0 + 1 * b.val = b.val; omega
  | 2 => show 0 + 1 * e.val = e.val; omega

theorem wq_load (c : Dev nD) (a : Fin 768) (b : Fin 512) (hb) :
    View.readAt (Elt Ideal) (View.whole cc0_stg1_0) (Rect.unit (s := S768x512) ![0, 0] ![768, 512] hb).toLoadRect (wqstg m ρ c) (ix2 a b)
      = wqE m ρ c (ix2 a b) := by
  refine congrArg (wqstg m ρ c) (funext fun x => Fin.ext ?_)
  match x with
  | 0 => show 0 + 1 * a.val = a.val; omega
  | 1 => show 0 + 1 * b.val = b.val; omega

theorem wo_load (c : Dev nD) (a : Fin 512) (b : Fin 768) (hb) :
    View.readAt (Elt Ideal) (View.whole cc0_stg4_0) (Rect.unit (s := S512x768) ![0, 0] ![512, 768] hb).toLoadRect (wostg m ρ c) (ix2 a b)
      = woE m ρ c (ix2 a b) := by
  refine congrArg (wostg m ρ c) (funext fun x => Fin.ext ?_)
  match x with
  | 0 => show 0 + 1 * a.val = a.val; omega
  | 1 => show 0 + 1 * b.val = b.val; omega

theorem qry_eq (c : Dev nD) (d : Fin 2) (r t : Fin 512) (j : Fin 1024) (hj : j.val = 512 * d.val + r.val) :
    run.sl.v89 m ρ c (ix2 j t) = qry m ρ c d r t := by
  have h1 : (⟨j.val / 512, by omega⟩ : Fin 2) = d := Fin.ext (by show j.val / 512 = d.val; omega)
  have h2 : (⟨j.val % 512, by omega⟩ : Fin 512) = r := Fin.ext (by show j.val % 512 = r.val; omega)
  unfold run.sl.v89 qry
  pointwise [k0_pay9]
  simp only [x_load, wq_load, h1, h2]

theorem batchOf_apply (d : Fin 2) (X : S2x512x8x64.Idx → Elt Ideal .bf16) (col : Fin 512) (hd : Fin 8) (dd : Fin 64) :
    batchOf d X (ix4 0 col hd dd) = X (ix4 d col hd dd) :=
  congrArg X (funext fun a => by
    match a with
    | 0 | 1 | 2 | 3 => rfl)

/-- What the copies carry, entry by entry. -/
theorem kvPay_apply (c : Dev nD) (d k : Fin 2) (col : Fin 512) (hd : Fin 8) (dd : Fin 64) (t : Fin 512) (ht : t.val = 64 * hd.val + dd.val) :
    kvPay m ρ c d k (ix5 0 0 0 col t) = (if k = 0 then kE m ρ c else vE m ρ c) (ix4 d col hd dd) := by
  have h1 : (⟨t.val / 64, by omega⟩ : Fin 8) = hd := Fin.ext (by show t.val / 64 = hd.val; omega)
  have h2 : (⟨t.val % 64, by omega⟩ : Fin 64) = dd := Fin.ext (by show t.val % 64 = dd.val; omega)
  unfold kvPay
  generalize hX : batchOf d (if k = 0 then kstg m ρ c else vstg m ρ c) = X
  pointwise [k0_pay4, h1, h2]
  rw [← hX, batchOf_apply]
  by_cases hk : k = 0
  · rw [if_pos hk, if_pos hk]; rfl
  · rw [if_neg hk, if_neg hk]; rfl

/-- A loaded slice of keys or values, widened, entry by entry. -/
theorem widen_apply (X : Vec Ideal S1x1x1x512x64 .fp8e4m3) (col : Fin 512) (dd : Fin 64) :
    (extf .bf16 (shapeCast S512x64 X shapeCasts_S1x1x1x512x64_S512x64) bitsLt_fp8e4m3_bf16 : FVec Ideal S512x64 .bf16) (ix2 col dd)
      = X (ix5 0 0 0 col dd) := by
  pointwise

/-- Where a loaded slice's entry lies in its slot. -/
theorem sBox_idx (d : Fin 2) (h : Fin 4) (k : Fin 2) (hd : Fin 8) (col : Fin 512) (dd : Fin 64) (t : Fin 512) (ht : t.val = 64 * hd.val + dd.val) :
    (sBox d h k hd).toLoadRect.idx (ix5 0 0 0 col dd)
      = (Rect.unit (s := S2x4x2x512x512) ![d.val, h.val, k.val, 0, 0] S1x1x1x512x512.size (inbSlot d h k)).emb (ix5 0 0 0 col t) :=
  funext fun a => Fin.ext (by
    match a with
    | 0 => rfl
    | 1 => rfl
    | 2 => rfl
    | 3 => rfl
    | 4 => show 64 * hd.val + 1 * dd.val = 0 + 1 * t.val; omega)

theorem kv_eq (c : Dev nD) (d : Fin 2) (h : Fin 4) (k : Fin 2) (hd : Fin 8) (col : Fin 512) (dd : Fin 64) :
    kv m ρ c d h k hd (ix2 col dd) = (if k = 0 then kE m ρ (org c d h) else vE m ρ (org c d h)) (ix4 d col hd dd) := by
  have h1 := widen_apply (View.readAt (Elt Ideal) commM.view (sBox d h k hd).toLoadRect (commG m ρ c)) col dd
  have h2 := sBox_idx d h k hd col dd ⟨64 * hd.val + dd.val, by omega⟩ rfl
  have h3 := commG_emb m ρ c d h k (inbSlot d h k) (ix5 0 0 0 col ⟨64 * hd.val + dd.val, by omega⟩)
  have h4 := kvPay_apply m ρ (org c d h) d k col hd dd ⟨64 * hd.val + dd.val, by omega⟩ rfl
  exact h1.trans ((congrArg (commG m ρ c) h2).trans (h3.trans h4))

/-- An entry of the weights. -/
def wgt (c : Dev nD) (d : Fin 2) (h : Fin 4) (hd : Fin 8) (r col : Fin 512) : EReal :=
  if att (512 * c.val + r.val) (512 * (org c d h).val + col.val) then
    Ideal.exp (∑ x : Fin 64, qry m ρ c d r ⟨64 * hd.val + x.val, by omega⟩ * kE m ρ (org c d h) (ix4 d col hd x))
  else 0

theorem wBlk_apply (c : Dev nD) (d : Fin 2) (h : Fin 4) (hd : Fin 8) (r col : Fin 512) :
    wBlk m ρ c d h hd (ix2 r col) = wgt m ρ c d h hd r col := by
  have hm := mask_apply c d h r col
  have hq := fun x : Fin 64 => qry_eq m ρ c d r ⟨64 * hd.val + x.val, by omega⟩ ⟨512 * d.val + r.val, by omega⟩ rfl
  have hk := kv_eq m ρ c d h 0 hd col
  unfold wgt
  pointwise [wBlk, hm, hq]
  simp only [hk]
  split <;> rfl

theorem rowSum_apply (c : Dev nD) (d : Fin 2) (h : Fin 4) (hd : Fin 8) (r : Fin 512) :
    rowSum m ρ c d h hd (ix2 r 0) = ∑ col : Fin 512, wgt m ρ c d h hd r col := by
  pointwise [rowSum]
  simp only [wBlk_apply]

/-- A block product, entry by entry. -/
theorem prod_apply (W : FVec Ideal S512x512 .bf16) (V : FVec Ideal S512x64 .bf16) (r : Fin 512) (dd : Fin 64) :
    matmul dot_S512x512_S512x64_S512x64_1_0_0_1_n_n none
      (shapeCast S512x512 (shapeCast S1x512x512 W shapeCasts_S512x512_S1x512x512) shapeCasts_S1x512x512_S512x512) V
      (constant S512x64 .f32 0x00000000#32) (ix2 r dd) = ∑ col : Fin 512, W (ix2 r col) * V (ix2 col dd) := by
  pointwise

theorem pv_apply (c : Dev nD) (d : Fin 2) (h : Fin 4) (hd : Fin 8) (r : Fin 512) (dd : Fin 64) :
    pv m ρ c d h hd (ix2 r dd) = ∑ col : Fin 512, wgt m ρ c d h hd r col * vE m ρ (org c d h) (ix4 d col hd dd) := by
  have hw := congrArg (fun X : FVec Ideal S1x512x512 .bf16 => matmul dot_S512x512_S512x64_S512x64_1_0_0_1_n_n none
      (shapeCast S512x512 X shapeCasts_S1x512x512_S512x512) (kv m ρ c d h 1 hd) (constant S512x64 .f32 0x00000000#32) (ix2 r dd)) (wAll_read m ρ c h d hd)
  refine (hw.trans (prod_apply _ _ r dd)).trans (Finset.sum_congr rfl fun col _ => ?_)
  rw [wBlk_apply, kv_eq, if_neg (by decide)]

/-- An entry of the context. -/
def ctxE (c : Dev nD) (d : Fin 2) (hd : Fin 8) (r : Fin 512) (dd : Fin 64) : EReal :=
  Ideal.div (∑ h : Fin 4, ∑ col : Fin 512, wgt m ρ c d h hd r col * vE m ρ (org c d h) (ix4 d col hd dd))
    (∑ h : Fin 4, ∑ col : Fin 512, wgt m ρ c d h hd r col)

theorem ctxBlk_apply (c : Dev nD) (d : Fin 2) (hd : Fin 8) (r : Fin 512) (dd : Fin 64) :
    ctxBlk m ρ c d hd (ix2 r dd) = ctxE m ρ c d hd r dd := by
  unfold ctxE
  rw [Fin.sum_univ_four, Fin.sum_univ_four]
  pointwise [ctxBlk, den]
  simp only [pv_apply, rowSum_apply]

/-- An entry of the result. -/
theorem outAt_apply (c : Dev nD) (d : Fin 2) (r : Fin 512) (e : Fin 768) :
    outAt m ρ c (ix3 d r e)
      = ∑ t : Fin 512, ctxE m ρ c d ⟨t.val / 64, by omega⟩ r ⟨t.val % 64, by omega⟩ * woE m ρ c (ix2 t e) := by
  rw [outAt_eq]
  pointwise [k0_pay3]
  refine Finset.sum_congr rfl fun t _ => ?_
  rw [wo_load, ← ctxBlk_apply]
  refine congrArg (fun x : EReal => x * _) ?_
  exact ctx_whole m ρ c d ⟨t.val / 64, by omega⟩ _ _ (by show d.val * 512 + r.val = 512 * d.val + r.val; omega)
    (by show t.val = 64 * (t.val / 64) + t.val % 64; omega)

end Cert.Attn
-- ==== Proof.RefAt.lean ====
module

public import proofs.«01_k».proof.Defs
public import proofs.«01_k».proof.Proof.Gen.ReferenceIdeal
public import proofs.«01_k».proof.Proof.Gen.ReferenceIdeal.Run
public import proofs.«01_k».proof.Proof.Mask
public import Idealize.ShloMosaic.Lib.Pointwise

@[expose] public section

/-!
# The reference's value over the extended reals, entry by entry

The reference's term is cut at its named intermediate arrays (mask, scores, row maxima, exponentials, row sums, weights, context), and each is
read at an index.
-/

noncomputable section

namespace Cert.AttnRef

open Cert.ReferenceIdeal Cert.ReferenceIdeal.Gen
open Idealize.ShloMosaic Idealize.SL.Sem
open Idealize.ShloMosaic.TcCoe
open Cert.Attn (att)

/-! ## The mask -/

/-- The block of each position. -/
def blk : IVec S2048 32 :=
  select (andi (cmpi .ne (signi (iotaInDim S2048 32 0)) (broadcastInDim S2048 ![] bcast_S_S2048 (signi (id (constantI S_ 32 64#32)))))
      (cmpi .ne (Host.remsi (iotaInDim S2048 32 0) (broadcastInDim S2048 ![] bcast_S_S2048 (id (constantI S_ 32 64#32))))
        (broadcastInDim S2048 ![] bcast_S_S2048 (constantI S_ 32 0#32))))
    (subi (Host.divsi (iotaInDim S2048 32 0) (broadcastInDim S2048 ![] bcast_S_S2048 (id (constantI S_ 32 64#32))))
      (broadcastInDim S2048 ![] bcast_S_S2048 (constantI S_ 32 1#32)))
    (Host.divsi (iotaInDim S2048 32 0) (broadcastInDim S2048 ![] bcast_S_S2048 (id (constantI S_ 32 64#32))))

/-- The blocks of the queries and of the keys, spread over all pairs. -/
def qBlk : IVec S2048x2048 32 :=
  broadcastInDim S2048x2048 ![0, 1] bcast_S2048x1_S2048x2048_0_1 (broadcastInDim S2048x1 ![0] bcast_S2048_S2048x1_0 blk)
def kBlk : IVec S2048x2048 32 :=
  broadcastInDim S2048x2048 ![0, 1] bcast_S1x2048_S2048x2048_0_1 (broadcastInDim S1x2048 ![1] bcast_S2048_S1x2048_1 blk)

def three : IVec S_ 32 :=
  select (cmpi .eq (id (constantI S_ 32 3#32)) (constantI S_ 32 0#32)) (constantI S_ 32 1#32) (id (constantI S_ 32 3#32))

/-- The remainder of their sum modulo three, -/
def rem3 : IVec S2048x2048 32 := Host.remsi (addi qBlk kBlk) (broadcastInDim S2048x2048 ![] bcast_S_S2048x2048 three)
/-- made non-negative. -/
def mod3 : IVec S2048x2048 32 :=
  select (andi (cmpi .ne (cmpi .slt rem3 (broadcastInDim S2048x2048 ![] bcast_S_S2048x2048 (constantI S_ 32 0#32)))
        (broadcastInDim S2048x2048 ![] bcast_S_S2048x2048 (cmpi .slt three (constantI S_ 32 0#32))))
      (cmpi .ne rem3 (broadcastInDim S2048x2048 ![] bcast_S_S2048x2048 (constantI S_ 32 0#32))))
    (addi rem3 (broadcastInDim S2048x2048 ![] bcast_S_S2048x2048 three)) rem3

def mask : IVec S2048x2048 1 :=
  ori (ori (cmpi .eq qBlk kBlk)
      (broadcastInDim S2048x2048 ![0, 1] bcast_S1x2048_S2048x2048_0_1
        (cmpi .eq (broadcastInDim S1x2048 ![1] bcast_S2048_S1x2048_1 blk) (broadcastInDim S1x2048 ![] bcast_S_S1x2048 (constantI S_ 32 0#32)))))
    (cmpi .eq mod3 (broadcastInDim S2048x2048 ![] bcast_S_S2048x2048 (constantI S_ 32 0#32)))

def keep : IVec S2048 1 := Host.reduce IntOp.ori mask (constantI S_ 1 0#1) reducesTo_S2048x2048_S2048_d1 h_S_

/-! ## The attention -/

variable (x : FVec Ideal S2x2048x768 .bf16) (wq : FVec Ideal S768x512 .bf16) (k v : FVec Ideal S2x2048x8x64 .bf16) (wo : FVec Ideal S512x768 .bf16)

def score : FVec Ideal S2x8x2048x2048 .f32 :=
  mulf (Host.dotGeneral dot_S2x2048x8x64_S2x2048x8x64_S2x8x2048x2048_3_3_1_1_02_02 none
      (shapeCast S2x2048x8x64 (Host.dotGeneral dot_S2x2048x768_S768x512_S2x2048x512_2_0_01_1_n_n none (extf .f32 x bitsLt_bf16_f32) (extf .f32 wq bitsLt_bf16_f32))
        shapeCasts_S2x2048x512_S2x2048x8x64) (extf .f32 k bitsLt_bf16_f32))
    (broadcastInDim S2x8x2048x2048 ![] bcast_S_S2x8x2048x2048 (constant S_ .f32 0x3E000000#32))

def masked : FVec Ideal S2x8x2048x2048 .f32 :=
  select (broadcastInDim S2x8x2048x2048 ![0, 1, 2, 3] bcast_S1x1x2048x2048_S2x8x2048x2048_0_1_2_3
      (broadcastInDim S1x1x2048x2048 ![2, 3] bcast_S2048x2048_S1x1x2048x2048_2_3 mask)) (score x wq k)
    (broadcastInDim S2x8x2048x2048 ![] bcast_S_S2x8x2048x2048 (id (constant S_ .f32 0xFF800000#32)))

def rowMax : FVec Ideal S2x8x2048 .f32 :=
  Host.reduce FloatOps.maximumf (masked x wq k) (constant S_ .f32 0xFF800000#32) reducesTo_S2x8x2048x2048_S2x8x2048_d3 h_S_

def expd : FVec Ideal S2x8x2048x2048 .f32 :=
  Host.exp (subf (masked x wq k) (broadcastInDim S2x8x2048x2048 ![0, 1, 2, 3] bcast_S2x8x2048x1_S2x8x2048x2048_0_1_2_3
    (broadcastInDim S2x8x2048x1 ![0, 1, 2] bcast_S2x8x2048_S2x8x2048x1_0_1_2 (rowMax x wq k))))

def rowSum : FVec Ideal S2x8x2048 .f32 :=
  Host.reduceAdd (expd x wq k) (constant S_ .f32 0x00000000#32) reducesTo_S2x8x2048x2048_S2x8x2048_d3 h_S_

def weight : FVec Ideal S2x8x2048x2048 .f32 :=
  select (broadcastInDim S2x8x2048x2048 ![0, 1, 2, 3] bcast_S1x1x2048x1_S2x8x2048x2048_0_1_2_3 (broadcastInDim S1x1x2048x1 ![2] bcast_S2048_S1x1x2048x1_2 keep))
    (Host.divf (expd x wq k) (broadcastInDim S2x8x2048x2048 ![0, 1, 2, 3] bcast_S2x8x2048x1_S2x8x2048x2048_0_1_2_3
      (select (broadcastInDim S2x8x2048x1 ![0, 1, 2, 3] bcast_S1x1x2048x1_S2x8x2048x1_0_1_2_3 (broadcastInDim S1x1x2048x1 ![2] bcast_S2048_S1x1x2048x1_2 keep))
        (broadcastInDim S2x8x2048x1 ![0, 1, 2] bcast_S2x8x2048_S2x8x2048x1_0_1_2 (rowSum x wq k))
        (broadcastInDim S2x8x2048x1 ![] bcast_S_S2x8x2048x1 (id (constant S_ .f32 0x3F800000#32))))))
    (broadcastInDim S2x8x2048x2048 ![] bcast_S_S2x8x2048x2048 (id (constant S_ .f32 0x00000000#32)))

def context : FVec Ideal S2x8x64x2048 .f32 :=
  Host.dotGeneral dot_S2x2048x8x64_S2x8x2048x2048_S2x8x64x2048_1_3_3_2_02_01 none (extf .f32 v bitsLt_bf16_f32) (weight x wq k)

def result : FVec Ideal S2x2048x768 .f32 :=
  Host.dotGeneral dot_S2x2048x512_S512x768_S2x2048x768_2_0_01_1_n_n none
    (shapeCast S2x2048x512 (transpose S2x2048x8x64 [0, 3, 1, 2] (context x wq k v) transposes_S2x8x64x2048_S2x2048x8x64_0_3_1_2)
      shapeCasts_S2x2048x8x64_S2x2048x512) (extf .f32 wo bitsLt_bf16_f32)

theorem res_eq (m : (ℓ : Loc nD τ sig) → Buf (Elt Ideal) ℓ) (c : Dev nD) :
    Value.res_main_v49 m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

/-! ## Entry by entry -/

theorem blk_apply (i : Fin 2048) : blk (ix1 i) = BitVec.ofNat 32 (i.val / 64) := by
  pointwise [blk]
  revert i
  decide +kernel

theorem mask_apply (i j : Fin 2048) : mask (ix2 i j) = if att i.val j.val then 1#1 else 0#1 := by
  have h1 := blk_apply i
  have h2 := blk_apply j
  pointwise [mask, mod3, rem3, three, qBlk, kBlk, h1, h2]
  have hp : i.val / 64 < 32 := by omega
  have hq : j.val / 64 < 32 := by omega
  rw [show (if att i.val j.val then 1#1 else 0#1) = if i.val / 64 = j.val / 64 ∨ j.val / 64 = 0 ∨ (i.val / 64 + j.val / 64) % 3 = 0 then 1#1 else 0#1
    from if_congr Iff.rfl rfl rfl]
  clear h1 h2
  generalize i.val / 64 = p at *
  generalize j.val / 64 = q at *
  lift p to Fin 32 using hp
  lift q to Fin 32 using hq
  revert p q
  decide +kernel

theorem keep_apply (i : Fin 2048) : keep (ix1 i) = 1#1 := by
  pointwise [keep]
  rw [← Finset.insert_erase (Finset.mem_univ i), Finset.fold_insert (Finset.notMem_erase _ _), mask_apply, if_pos (show att i.val i.val from Or.inl rfl)]
  generalize Finset.fold IntOp.ori _ _ _ = z
  revert z
  decide

theorem score_apply (b : Fin 2) (hd : Fin 8) (i j : Fin 2048) :
    score x wq k (ix4 b hd i j)
      = (∑ d : Fin 64, (∑ e : Fin 768, x (ix3 b i e) * wq (ix2 e ⟨hd.val * 64 + d.val, by omega⟩)) * k (ix4 b j hd d)) * Ideal.ofBits .f32 0x3E000000#32 := by
  pointwise [score]

theorem masked_apply (b : Fin 2) (hd : Fin 8) (i j : Fin 2048) :
    masked x wq k (ix4 b hd i j) = if att i.val j.val then score x wq k (ix4 b hd i j) else Ideal.ofBits .f32 0xFF800000#32 := by
  have h := mask_apply i j
  pointwise [masked, h]
  by_cases ha : att i.val j.val
  · rw [if_pos ha, if_pos ha]; rfl
  · rw [if_neg ha, if_neg ha]; rfl

theorem rowMax_apply (b : Fin 2) (hd : Fin 8) (i : Fin 2048) :
    rowMax x wq k (ix3 b hd i) = Finset.fold max (Ideal.ofBits .f32 0xFF800000#32) (fun j => masked x wq k (ix4 b hd i j)) Finset.univ := by
  pointwise [rowMax]

theorem expd_apply (b : Fin 2) (hd : Fin 8) (i j : Fin 2048) :
    expd x wq k (ix4 b hd i j) = Ideal.exp (masked x wq k (ix4 b hd i j) - rowMax x wq k (ix3 b hd i)) := by
  pointwise [expd]

theorem rowSum_apply (b : Fin 2) (hd : Fin 8) (i : Fin 2048) : rowSum x wq k (ix3 b hd i) = ∑ j, expd x wq k (ix4 b hd i j) := by
  pointwise [rowSum]

/-- A row that keeps a key is divided by its sum. -/
theorem divide_apply (kp : IVec S2048 1) (E : FVec Ideal S2x8x2048x2048 .f32) (S : FVec Ideal S2x8x2048 .f32) (b : Fin 2) (hd : Fin 8) (i j : Fin 2048)
    (hk : kp (ix1 i) = 1#1) :
    select (broadcastInDim S2x8x2048x2048 ![0, 1, 2, 3] bcast_S1x1x2048x1_S2x8x2048x2048_0_1_2_3 (broadcastInDim S1x1x2048x1 ![2] bcast_S2048_S1x1x2048x1_2 kp))
      (Host.divf E (broadcastInDim S2x8x2048x2048 ![0, 1, 2, 3] bcast_S2x8x2048x1_S2x8x2048x2048_0_1_2_3
        (select (broadcastInDim S2x8x2048x1 ![0, 1, 2, 3] bcast_S1x1x2048x1_S2x8x2048x1_0_1_2_3 (broadcastInDim S1x1x2048x1 ![2] bcast_S2048_S1x1x2048x1_2 kp))
          (broadcastInDim S2x8x2048x1 ![0, 1, 2] bcast_S2x8x2048_S2x8x2048x1_0_1_2 S)
          (broadcastInDim S2x8x2048x1 ![] bcast_S_S2x8x2048x1 (id (constant S_ .f32 0x3F800000#32))))))
      (broadcastInDim S2x8x2048x2048 ![] bcast_S_S2x8x2048x2048 (id (constant S_ .f32 0x00000000#32))) (ix4 b hd i j)
      = Ideal.div (E (ix4 b hd i j)) (S (ix3 b hd i)) := by
  pointwise [hk]

theorem weight_apply (b : Fin 2) (hd : Fin 8) (i j : Fin 2048) :
    weight x wq k (ix4 b hd i j) = Ideal.div (expd x wq k (ix4 b hd i j)) (rowSum x wq k (ix3 b hd i)) :=
  divide_apply keep (expd x wq k) (rowSum x wq k) b hd i j (keep_apply i)

theorem result_apply (b : Fin 2) (i : Fin 2048) (e : Fin 768) :
    result x wq k v wo (ix3 b i e)
      = ∑ t : Fin 512, (∑ j : Fin 2048, v (ix4 b j ⟨t.val / 64, by omega⟩ ⟨t.val % 64, by omega⟩) * weight x wq k (ix4 b ⟨t.val / 64, by omega⟩ i j)) * wo (ix2 t e) := by
  pointwise [result, context]

end Cert.AttnRef
-- ==== Proof.Softmax.lean ====
module

public import Idealize.ShloMosaic.PureOps.Ideal

@[expose] public section

/-!
# A masked softmax average, with and without the shift by the maximum

Over the extended reals, for finite scores and a mask that keeps at least one of them: the average of the values by the exponentials of the
scores less their maximum, each divided by its sum, is the sum of the values by the plain exponentials over the sum of these.  The values may be
infinite.
-/

noncomputable section

namespace Cert.Softmax

open Idealize.ShloMosaic

/-- A factor that is a non-negative real moves into a sum of extended reals. -/
theorem sum_mul_coe {J : Type} (S : Finset J) (f : J → EReal) {c : ℝ} (hc : 0 ≤ c) : (∑ j ∈ S, f j) * (c : EReal) = ∑ j ∈ S, f j * (c : EReal) := by
  classical
  induction S using Finset.induction_on with
  | empty => simp
  | insert a S ha ih =>
    rw [Finset.sum_insert ha, Finset.sum_insert ha,
      EReal.right_distrib_of_nonneg_of_ne_top (EReal.coe_nonneg.mpr hc) (EReal.coe_ne_top c), ih]

theorem coe_sum {J : Type} (S : Finset J) (f : J → ℝ) : ((∑ j ∈ S, f j : ℝ) : EReal) = ∑ j ∈ S, (f j : EReal) := by
  classical
  induction S using Finset.induction_on with
  | empty => simp
  | insert a S ha ih => rw [Finset.sum_insert ha, Finset.sum_insert ha, EReal.coe_add, ih]

variable {J : Type} [Fintype J] (s : J → ℝ) (mk : J → Prop) [DecidablePred mk]

/-- The largest kept score is real. -/
theorem max_real {j0 : J} (h0 : mk j0) :
    ∃ μ : ℝ, Finset.univ.fold max (⊥ : EReal) (fun j => if mk j then (s j : EReal) else ⊥) = μ := by
  classical
  set A : J → EReal := fun j => if mk j then (s j : EReal) else ⊥ with hA
  have hlt : Finset.univ.fold max (⊥ : EReal) A < ⊤ := by
    rw [Finset.fold_max_lt]
    refine ⟨bot_lt_top, fun j _ => ?_⟩
    simp only [hA]
    split
    · exact EReal.coe_lt_top _
    · exact bot_lt_top
  have hgt : (⊥ : EReal) < Finset.univ.fold max (⊥ : EReal) A := by
    rw [Finset.lt_fold_max]
    refine Or.inr ⟨j0, Finset.mem_univ _, ?_⟩
    simp only [hA, if_pos h0]
    exact EReal.bot_lt_coe _
  exact ⟨(Finset.univ.fold max (⊥ : EReal) A).toReal, (EReal.coe_toReal hlt.ne hgt.ne').symm⟩

theorem average {j0 : J} (h0 : mk j0) (V : J → EReal) (A E w : J → EReal) (M : EReal)
    (hA : ∀ j, A j = if mk j then (s j : EReal) else ⊥) (hM : M = Finset.univ.fold max ⊥ A) (hE : ∀ j, E j = Ideal.exp (A j - M))
    (hw : ∀ j, w j = if mk j then Ideal.exp (s j) else 0) :
    ∑ j, V j * Ideal.div (E j) (∑ j, E j) = Ideal.div (∑ j, w j * V j) (∑ j, w j) := by
  classical
  obtain ⟨μ, hμ⟩ := max_real s mk h0
  have hM' : M = μ := by rw [hM, show A = _ from funext hA, hμ]
  let u : J → ℝ := fun j => if mk j then Real.exp (s j) else 0
  have hu : ∀ j, 0 ≤ u j := fun j => by
    show 0 ≤ if mk j then Real.exp (s j) else 0
    split
    · exact (Real.exp_pos _).le
    · exact le_rfl
  have hwu : ∀ j, w j = (u j : EReal) := fun j => by
    rw [hw]
    show _ = ((if mk j then Real.exp (s j) else 0 : ℝ) : EReal)
    split <;> simp
  have hEu : ∀ j, E j = ((u j * Real.exp (-μ) : ℝ) : EReal) := fun j => by
    rw [hE, hA, hM']
    show _ = (((if mk j then Real.exp (s j) else 0) * Real.exp (-μ) : ℝ) : EReal)
    split
    · rw [← EReal.coe_sub, Ideal.exp_coe, sub_eq_add_neg, Real.exp_add]
    · rw [EReal.bot_sub, Ideal.exp_bot]; simp
  have hU : 0 < ∑ j, u j :=
    Finset.sum_pos' (fun j _ => hu j) ⟨j0, Finset.mem_univ _, by show 0 < if mk j0 then Real.exp (s j0) else 0; rw [if_pos h0]; exact Real.exp_pos _⟩
  have hsw : ∑ j, w j = ((∑ j, u j : ℝ) : EReal) := by rw [coe_sum]; exact Finset.sum_congr rfl fun j _ => hwu j
  have hsE : ∑ j, E j = (((∑ j, u j) * Real.exp (-μ) : ℝ) : EReal) := by
    rw [Finset.sum_mul, coe_sum]; exact Finset.sum_congr rfl fun j _ => hEu j
  have hp := Real.exp_pos (-μ)
  rw [hsw, hsE, Ideal.div_coe hU.ne', sum_mul_coe _ _ (by positivity)]
  refine Finset.sum_congr rfl fun j _ => ?_
  rw [Ideal.div_coe (mul_pos hU hp).ne', hEu, hwu, ← EReal.coe_mul, mul_comm (u j : EReal) (V j), mul_assoc (V j), ← EReal.coe_mul]
  congr 2
  field_simp

end Cert.Softmax
-- ==== Proof.Average.lean ====
module

public import proofs.«01_k».proof.Proof.KernelAt
public import proofs.«01_k».proof.Proof.RefAt
public import proofs.«01_k».proof.Proof.Softmax

@[expose] public section

/-!
# The two programs compute the same average

A device meets the keys hop by hop, the device of origin changing with each; over the four hops it meets every key once.  Its sums are the
reference's sums over all the keys, its weights the reference's up to the shift by the row's maximum.
-/

noncomputable section

namespace Cert.Attn

open Cert.KernelIdeal Cert.KernelIdeal.Gen
open Idealize.ShloMosaic
open Idealize.ShloMosaic.TcCoe

/-- Over its four hops a device meets every device's keys once. -/
theorem org_bijective (c : Dev nD) (d : Fin 2) : Function.Bijective (org c d) := by
  revert c d
  decide

/-- The place, among all rows, of row `r` of device `c`. -/
def rowAt (c : Fin 4) (r : Fin 512) : Fin 2048 := ⟨512 * c.val + r.val, by omega⟩

theorem sum_hops (c : Dev nD) (d : Fin 2) (f : Fin 2048 → EReal) : ∑ h : Fin 4, ∑ col : Fin 512, f (rowAt (org c d h) col) = ∑ j, f j := by
  rw [(org_bijective c d).sum_comp (fun o : Fin 4 => ∑ col : Fin 512, f (rowAt o col)), ← Fintype.sum_prod_type' (fun o col => f (rowAt o col))]
  exact Fintype.sum_equiv finProdFinEquiv _ _ fun p => congrArg f (Fin.ext (Nat.add_comm _ _))

theorem eighth : Ideal.ofBits .f32 0x3E000000#32 = ((1 / 8 : ℝ) : EReal) := by
  simp [Ideal.ofBits, Ideal.ieee, -EReal.coe_mul]; norm_num

theorem neg_infinity : Ideal.ofBits .f32 0xFF800000#32 = (⊥ : EReal) := by simp [Ideal.ofBits, Ideal.ieee]

/-- A sum of products of reals is a real. -/
theorem real_sum {J : Type} [Fintype J] (f g : J → EReal) (hf : ∀ j, ∃ r : ℝ, f j = r) (hg : ∀ j, ∃ r : ℝ, g j = r) : ∃ r : ℝ, ∑ j, f j * g j = r := by
  choose a ha using hf
  choose b hb using hg
  exact ⟨∑ j, a j * b j, by rw [Softmax.coe_sum]; exact Finset.sum_congr rfl fun j _ => by rw [ha, hb, EReal.coe_mul]⟩

section

variable (X : FVec Ideal Cert.ReferenceIdeal.S2x2048x768 .bf16) (WQ : FVec Ideal Cert.ReferenceIdeal.S768x512 .bf16)
  (K V : FVec Ideal Cert.ReferenceIdeal.S2x2048x8x64 .bf16) (WO : FVec Ideal Cert.ReferenceIdeal.S512x768 .bf16)

/-- Of finite arrays the scores are real. -/
theorem score_real (hX : ∀ b i e, ∃ r : ℝ, X (ix3 b i e) = r) (hWQ : ∀ e t, ∃ r : ℝ, WQ (ix2 e t) = r) (hK : ∀ b j hd x, ∃ r : ℝ, K (ix4 b j hd x) = r)
    (b : Fin 2) (hd : Fin 8) (i j : Fin 2048) : ∃ r : ℝ, AttnRef.score X WQ K (ix4 b hd i j) = r := by
  rw [AttnRef.score_apply, eighth]
  obtain ⟨a, ha⟩ := real_sum _ _ (fun d : Fin 64 => real_sum (fun e => X (ix3 b i e)) (fun e => WQ (ix2 e ⟨hd.val * 64 + d.val, by omega⟩)) (hX b i) (fun e => hWQ e _))
    (fun d => hK b j hd d)
  exact ⟨a * (1 / 8), by rw [ha, EReal.coe_mul]⟩

/-- The reference's context: the plain exponentials weigh the values, over their sum. -/
theorem context_eq (hX : ∀ b i e, ∃ r : ℝ, X (ix3 b i e) = r) (hWQ : ∀ e t, ∃ r : ℝ, WQ (ix2 e t) = r) (hK : ∀ b j hd x, ∃ r : ℝ, K (ix4 b j hd x) = r)
    (b : Fin 2) (hd : Fin 8) (i : Fin 2048) (val w : Fin 2048 → EReal)
    (hw : ∀ j, w j = if att i.val j.val then Ideal.exp (AttnRef.score X WQ K (ix4 b hd i j)) else 0) :
    ∑ j, val j * AttnRef.weight X WQ K (ix4 b hd i j) = Ideal.div (∑ j, w j * val j) (∑ j, w j) := by
  choose s hs using score_real X WQ K hX hWQ hK b hd i
  simp only [AttnRef.weight_apply, AttnRef.rowSum_apply]
  refine Softmax.average s (fun j => att i.val j.val) (j0 := i) (Or.inl rfl) val (fun j => AttnRef.masked X WQ K (ix4 b hd i j)) _ w
    (AttnRef.rowMax X WQ K (ix3 b hd i)) (fun j => ?_) ?_ (fun j => AttnRef.expd_apply ..) (fun j => ?_)
  · rw [AttnRef.masked_apply, hs, neg_infinity]
  · rw [AttnRef.rowMax_apply, neg_infinity]
  · rw [hw, hs]

variable (m : (ℓ : Loc nD τ sig) → Buf (Elt Ideal) ℓ) (ρ : Dev nD → PrngReg)

/-- The kernel's score is the reference's: its scale sits on the query. -/
theorem scores_agree (hx : ∀ c b r e, xE m ρ c (ix3 b r e) = X (ix3 b (rowAt c r) e)) (hwq : ∀ c e t, wqE m ρ c (ix2 e t) = WQ (ix2 e t))
    (hk : ∀ c b r hd x, kE m ρ c (ix4 b r hd x) = K (ix4 b (rowAt c r) hd x)) (c o : Dev nD) (d : Fin 2) (hd : Fin 8) (r col : Fin 512) :
    ∑ x : Fin 64, qry m ρ c d r ⟨64 * hd.val + x.val, by omega⟩ * kE m ρ o (ix4 d col hd x) = AttnRef.score X WQ K (ix4 d hd (rowAt c r) (rowAt o col)) := by
  rw [AttnRef.score_apply, eighth, Softmax.sum_mul_coe _ _ (by norm_num)]
  refine Finset.sum_congr rfl fun x _ => ?_
  unfold qry
  rw [hk, eighth, mul_right_comm]
  refine congrArg (fun z : EReal => z * _ * _) (Finset.sum_congr rfl fun e _ => ?_)
  rw [hx, hwq]
  exact congrArg (fun t => X _ * WQ (ix2 e t)) (Fin.ext (by show 64 * hd.val + x.val = hd.val * 64 + x.val; omega))

/-- The kernel's result is the reference's, the device's rows at their place among all. -/
theorem results_agree (hX : ∀ b i e, ∃ r : ℝ, X (ix3 b i e) = r) (hWQ : ∀ e t, ∃ r : ℝ, WQ (ix2 e t) = r) (hK : ∀ b j hd x, ∃ r : ℝ, K (ix4 b j hd x) = r)
    (hx : ∀ c b r e, xE m ρ c (ix3 b r e) = X (ix3 b (rowAt c r) e)) (hwq : ∀ c e t, wqE m ρ c (ix2 e t) = WQ (ix2 e t))
    (hk : ∀ c b r hd x, kE m ρ c (ix4 b r hd x) = K (ix4 b (rowAt c r) hd x)) (hv : ∀ c b r hd x, vE m ρ c (ix4 b r hd x) = V (ix4 b (rowAt c r) hd x))
    (hwo : ∀ c t e, woE m ρ c (ix2 t e) = WO (ix2 t e)) (c : Dev nD) (d : Fin 2) (r : Fin 512) (e : Fin 768) :
    outAt m ρ c (ix3 d r e) = AttnRef.result X WQ K V WO (ix3 d (rowAt c r) e) := by
  rw [outAt_apply, AttnRef.result_apply]
  refine Finset.sum_congr rfl fun t _ => ?_
  rw [hwo]
  refine congrArg (fun z : EReal => z * _) ?_
  generalize (⟨t.val / 64, _⟩ : Fin 8) = hd
  generalize (⟨t.val % 64, _⟩ : Fin 64) = x
  let w : Fin 2048 → EReal := fun j => if att (rowAt c r).val j.val then Ideal.exp (AttnRef.score X WQ K (ix4 d hd (rowAt c r) j)) else 0
  rw [context_eq X WQ K hX hWQ hK d hd (rowAt c r) (fun j => V (ix4 d j hd x)) w (fun _ => rfl)]
  have hwgt : ∀ h col, wgt m ρ c d h hd r col = w (rowAt (org c d h) col) := fun h col => by
    unfold wgt
    rw [scores_agree X WQ K m ρ hx hwq hk]
    rfl
  unfold ctxE
  rw [← sum_hops c d, ← sum_hops c d]
  refine congr_arg₂ Ideal.div ?_ ?_
  · exact Finset.sum_congr rfl fun h _ => Finset.sum_congr rfl fun col _ => by rw [hwgt, hv]
  · exact Finset.sum_congr rfl fun h _ => Finset.sum_congr rfl fun col _ => hwgt h col

end

end Cert.Attn
-- ==== Proof.Finite.lean ====
module

public import proofs.«01_k».proof.Defs
public import proofs.«01_k».proof.Proof.Gen.Pre_finite_scores_KernelIdeal
public import Idealize.ShloMosaic.Lib.Pointwise

@[expose] public section

/-!
# What the precondition says of one device's blocks

Every entry of its block of the tokens, of the query projection and of its block of the keys is a real number.
-/

noncomputable section

namespace Cert.Attn

open Idealize.ShloMosaic Cert.Pre_finite_scores_KernelIdeal Cert.Pre_finite_scores_KernelIdeal.Gen

theorem andi_one {a b : BitVec 1} (h : IntOp.andi a b = 1#1) : a = 1#1 ∧ b = 1#1 := by revert a b; decide

theorem fold_andi_one {J : Type} (S : Finset J) (f : J → BitVec 1) (h : Finset.fold IntOp.andi 1#1 f S = 1#1) : ∀ j ∈ S, f j = 1#1 := by
  classical
  induction S using Finset.induction_on with
  | empty => exact fun j hj => absurd hj (Finset.notMem_empty j)
  | insert a S ha ih =>
    rw [Finset.fold_insert ha] at h
    obtain ⟨h1, h2⟩ := andi_one h
    intro j hj
    rcases Finset.mem_insert.mp hj with rfl | hj
    · exact h1
    · exact ih h2 j hj

theorem real_of_abs {x : EReal} (h : BitVec.ofBool (decide (max x (-x) < Ideal.ofBits .f32 0x7F800000#32)) = 1#1) : ∃ r : ℝ, x = r := by
  have htop : Ideal.ofBits .f32 0x7F800000#32 = (⊤ : EReal) := by simp [Ideal.ofBits, Ideal.ieee]
  rw [htop] at h
  have hlt : max x (-x) < ⊤ := by
    by_contra hn
    rw [decide_eq_false hn] at h
    exact absurd h (by decide)
  induction x with
  | bot => simp at hlt
  | top => simp at hlt
  | coe r => exact ⟨r, rfl⟩

theorem finite_of_pre (x : FVec Ideal S2x512x768 .bf16) (wq : FVec Ideal S768x512 .bf16) (k v : FVec Ideal S2x512x8x64 .bf16) (wo : FVec Ideal S512x768 .bf16)
    (h : fn (F := Ideal) x wq k v wo = fun _ => 1#1) :
    (∀ b i e, ∃ r : ℝ, x (ix3 b i e) = r) ∧ (∀ e t, ∃ r : ℝ, wq (ix2 e t) = r) ∧ ∀ i, ∃ r : ℝ, k i = r := by
  have h' := congrFun h ix0
  unfold fn at h'
  refine Classical.byContradiction fun hn => ?_
  revert h'
  pointwise []
  intro h'
  obtain ⟨h12, h3⟩ := andi_one h'
  obtain ⟨h1, h2⟩ := andi_one h12
  exact hn ⟨fun b i e => real_of_abs (fold_andi_one _ _ h1 (b, i, e) (Finset.mem_univ _)),
    fun e t => real_of_abs (fold_andi_one _ _ h2 (e, t) (by simp)),
    fun i => real_of_abs (fold_andi_one _ _ h3 i (Finset.mem_filter.mpr ⟨Finset.mem_univ _, funext fun a => a.elim0⟩))⟩

end Cert.Attn
-- ==== Proof.Memory.lean ====
module

public import proofs.«01_k».proof.Proof.KernelAt
public import proofs.«01_k».proof.Proof.Launch
public import Idealize.ShloMosaic.Lib.Pipeline.ValueKit

@[expose] public section

/-!
# The arrays in memory

Each window is its whole array: what the body finds staged is the argument, and what it leaves is the result array.
-/

noncomputable section

namespace Cert.Attn

open Cert.KernelIdeal Cert.KernelIdeal.Gen
open Idealize.ShloMosaic Idealize.SL.Sem
open Idealize.ShloMosaic.TcCoe

section

variable (m : (ℓ : Loc nD τ sig) → Buf (Elt Ideal) ℓ) (ρ : Dev nD → PrngReg)

theorem xE_eq (c : Dev nD) (b : Fin 2) (r : Fin 512) (e : Fin 768) : xE m ρ c (ix3 b r e) = m ((c.tc : Thread nD τ).loc main_arg0) (ix3 b r e) :=
  congrArg (m ((c.tc : Thread nD τ).loc main_arg0)) (funext fun a => Fin.ext
    (Pipeline.Window.rect_emb_val_of_index_zero win0_0 ⟨0, by decide⟩ a (by revert a; decide +kernel) _))

theorem wqE_eq (c : Dev nD) (e : Fin 768) (t : Fin 512) : wqE m ρ c (ix2 e t) = m ((c.tc : Thread nD τ).loc main_arg1) (ix2 e t) :=
  congrArg (m ((c.tc : Thread nD τ).loc main_arg1)) (funext fun a => Fin.ext
    (Pipeline.Window.rect_emb_val_of_index_zero win0_1 ⟨0, by decide⟩ a (by revert a; decide +kernel) _))

theorem kE_eq (c : Dev nD) (b : Fin 2) (r : Fin 512) (hd : Fin 8) (x : Fin 64) : kE m ρ c (ix4 b r hd x) = m ((c.tc : Thread nD τ).loc main_arg2) (ix4 b r hd x) :=
  congrArg (m ((c.tc : Thread nD τ).loc main_arg2)) (funext fun a => Fin.ext
    (Pipeline.Window.rect_emb_val_of_index_zero win0_2 ⟨0, by decide⟩ a (by revert a; decide +kernel) _))

theorem vE_eq (c : Dev nD) (b : Fin 2) (r : Fin 512) (hd : Fin 8) (x : Fin 64) : vE m ρ c (ix4 b r hd x) = m ((c.tc : Thread nD τ).loc main_arg3) (ix4 b r hd x) :=
  congrArg (m ((c.tc : Thread nD τ).loc main_arg3)) (funext fun a => Fin.ext
    (Pipeline.Window.rect_emb_val_of_index_zero win0_3 ⟨0, by decide⟩ a (by revert a; decide +kernel) _))

theorem woE_eq (c : Dev nD) (t : Fin 512) (e : Fin 768) : woE m ρ c (ix2 t e) = m ((c.tc : Thread nD τ).loc main_arg4) (ix2 t e) :=
  congrArg (m ((c.tc : Thread nD τ).loc main_arg4)) (funext fun a => Fin.ext
    (Pipeline.Window.rect_emb_val_of_index_zero win0_4 ⟨0, by decide⟩ a (by revert a; decide +kernel) _))

theorem final_eq (c : Dev nD) : finalA m ρ c 5 = outAt m ρ c :=
  (dats m ρ 0 c).arrAt_eq_of_after_last (5 : Fin 6) ⟨0, by decide⟩ (by decide +kernel) (outAt m ρ c) (fun j => rfl)

end

end Cert.Attn
-- ==== Proof.Algebraic.lean ====
module

public import proofs.«01_k».proof.Proof.Average
public import proofs.«01_k».proof.Proof.Finite
public import proofs.«01_k».proof.Proof.Memory
public import proofs.«01_k».proof.Proof.Frames

@[expose] public section

/-!
# The algebraic claim

Each device's block of an array is its rows at their place among all; with the arrays related in this way the two values agree entry by entry,
and each program's run ends at its value.
-/

noncomputable section

namespace Cert.Attn

open Cert.KernelIdeal Cert.KernelIdeal.Gen
open Idealize.ShloMosaic Idealize.SL.Sem
open Idealize.ShloMosaic.TcCoe

/-- A device's block of the tokens or of the result, at an index, -/
theorem block_rows {α : Type} (c : Fin 4) (Y : (⟨3, ![2, 2048, 768]⟩ : Shape).Idx → α) (b : Fin 2) (r : Fin 512) (e : Fin 768) :
    Layout.block ⟨3, ![2, 512, 768]⟩ ⟨3, ![2, 2048, 768]⟩ 1 4 c Y (by decide) (ix3 b r e) = Y (ix3 b (rowAt c r) e) :=
  congrArg Y (funext fun a => Fin.ext (match a with
    | 0 => rfl
    | 1 => by show c.val * 512 + r.val = 512 * c.val + r.val; omega
    | 2 => rfl))

/-- and of the keys or values. -/
theorem block_keys {α : Type} (c : Fin 4) (Y : (⟨4, ![2, 2048, 8, 64]⟩ : Shape).Idx → α) (b : Fin 2) (r : Fin 512) (hd : Fin 8) (x : Fin 64) :
    Layout.block ⟨4, ![2, 512, 8, 64]⟩ ⟨4, ![2, 2048, 8, 64]⟩ 1 4 c Y (by decide) (ix4 b r hd x) = Y (ix4 b (rowAt c r) hd x) :=
  congrArg Y (funext fun a => Fin.ext (match a with
    | 0 => rfl
    | 1 => by show c.val * 512 + r.val = 512 * c.val + r.val; omega
    | 2 => rfl
    | 3 => rfl))

/-- Every row is a device's. -/
theorem rows_covered {P : Fin 2048 → Prop} (h : ∀ c r, P (rowAt c r)) (i : Fin 2048) : P i := by
  have := h ⟨i.val / 512, by omega⟩ ⟨i.val % 512, by omega⟩
  rwa [show rowAt ⟨i.val / 512, by omega⟩ ⟨i.val % 512, by omega⟩ = i from Fin.ext (Nat.div_add_mod ..)] at this

/-- The two results agree on every device. -/
theorem value_agrees (m : (ℓ : Loc nD τ sig) → Buf (Elt Ideal) ℓ) (ρ : Dev nD → PrngReg)
    (X : FVec Ideal Cert.ReferenceIdeal.S2x2048x768 .bf16) (WQ : FVec Ideal Cert.ReferenceIdeal.S768x512 .bf16)
    (K V : FVec Ideal Cert.ReferenceIdeal.S2x2048x8x64 .bf16) (WO : FVec Ideal Cert.ReferenceIdeal.S512x768 .bf16)
    (hpre : Cert.Pre_KernelIdeal_finite_scores_KernelIdeal (hPre_finite_scores_KernelIdeal := Cert.Pre_finite_scores_KernelIdeal.Gen.facts) m)
    (h0 : ∀ c : Dev nD, m ((c.tc : Thread nD τ).loc main_arg0) = Layout.block ⟨3, ![2, 512, 768]⟩ ⟨3, ![2, 2048, 768]⟩ 1 4 c X)
    (h1 : ∀ c : Dev nD, m ((c.tc : Thread nD τ).loc main_arg1) = WQ)
    (h2 : ∀ c : Dev nD, m ((c.tc : Thread nD τ).loc main_arg2) = Layout.block ⟨4, ![2, 512, 8, 64]⟩ ⟨4, ![2, 2048, 8, 64]⟩ 1 4 c K)
    (h3 : ∀ c : Dev nD, m ((c.tc : Thread nD τ).loc main_arg3) = Layout.block ⟨4, ![2, 512, 8, 64]⟩ ⟨4, ![2, 2048, 8, 64]⟩ 1 4 c V)
    (h4 : ∀ c : Dev nD, m ((c.tc : Thread nD τ).loc main_arg4) = WO) (c : Dev nD) :
    outAt m ρ c = Layout.block ⟨3, ![2, 512, 768]⟩ ⟨3, ![2, 2048, 768]⟩ 1 4 c (AttnRef.result X WQ K V WO) := by
  have fin := fun c => finite_of_pre _ _ _ _ _ (hpre c)
  have hX : ∀ c b r e, xE m ρ c (ix3 b r e) = X (ix3 b (rowAt c r) e) := fun c b r e => by rw [xE_eq, h0, block_rows]
  have hWQ : ∀ c e t, wqE m ρ c (ix2 e t) = WQ (ix2 e t) := fun c e t => by rw [wqE_eq, h1]
  have hK : ∀ c b r hd x, kE m ρ c (ix4 b r hd x) = K (ix4 b (rowAt c r) hd x) := fun c b r hd x => by rw [kE_eq, h2, block_keys]
  have hV : ∀ c b r hd x, vE m ρ c (ix4 b r hd x) = V (ix4 b (rowAt c r) hd x) := fun c b r hd x => by rw [vE_eq, h3, block_keys]
  have hWO : ∀ c t e, woE m ρ c (ix2 t e) = WO (ix2 t e) := fun c t e => by rw [woE_eq, h4]
  funext j
  rw [← ix3_eta j]
  refine (results_agree X WQ K V WO m ρ ?_ ?_ ?_ hX hWQ hK hV hWO c _ _ _).trans (block_rows c _ _ _ _).symm
  · exact fun b i e => rows_covered (P := fun i => ∃ q : ℝ, X (ix3 b i e) = q) (fun c r => by
      obtain ⟨q, hq⟩ := (fin c).1 b r e
      exact ⟨q, (hX c b r e).symm.trans ((xE_eq m ρ c b r e).trans hq)⟩) i
  · exact fun e t => by
      obtain ⟨q, hq⟩ := (fin 0).2.1 e t
      exact ⟨q, (hWQ 0 e t).symm.trans ((wqE_eq m ρ 0 e t).trans hq)⟩
  · exact fun b i hd x => rows_covered (P := fun i => ∃ q : ℝ, K (ix4 b i hd x) = q) (fun c r => by
      obtain ⟨q, hq⟩ := (fin c).2.2 (ix4 b r hd x)
      exact ⟨q, (hK c b r hd x).symm.trans ((kE_eq m ρ c b r hd x).trans hq)⟩) i

/-- The ideal kernel computes the ideal reference, device by device, wherever the scores' arguments are finite. -/
theorem algebraic : Cert.algebraic_KernelIdeal_ReferenceIdeal_pre_finite_scores_KernelIdeal (hKernelIdeal := Cert.KernelIdeal.Gen.facts)
    (hReferenceIdeal := Cert.ReferenceIdeal.Gen.facts) (hPre_finite_scores_KernelIdeal := Cert.Pre_finite_scores_KernelIdeal.Gen.facts) := by
  intro m g m' g' hpre hargs
  refine ⟨Cert.ReferenceIdeal.Value.res_main_v49 m' 0, ?_, ?_⟩
  · refine (θ_run defs _ _).mono (fun r h c => ⟨?_, (h.1 c (0 : Fin 6)).trans (finalA_in m g c 0 rfl), (h.1 c (1 : Fin 6)).trans (finalA_in m g c 1 rfl),
        (h.1 c (2 : Fin 6)).trans (finalA_in m g c 2 rfl), (h.1 c (3 : Fin 6)).trans (finalA_in m g c 3 rfl),
        (h.1 c (4 : Fin 6)).trans (finalA_in m g c 4 rfl)⟩) (run_main m g)
    refine (h.1 c (5 : Fin 6)).trans ((final_eq m g c).trans ?_)
    rw [AttnRef.res_eq]
    exact value_agrees m g _ _ _ _ _ hpre (fun c => (hargs c).1) (fun c => (hargs c).2.1) (fun c => (hargs c).2.2.1)
      (fun c => (hargs c).2.2.2.1) (fun c => (hargs c).2.2.2.2) c
  · exact (θ_run Cert.ReferenceIdeal.defs _ _).mono (fun r h => h 0) (Cert.ReferenceIdeal.Value.run (F := Ideal) m' g')

end Cert.Attn
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_finite_scores_KernelIdeal
public import proofs.«01_k».proof.Proof.Gen.Pre_finite_scores_ReferenceIdeal
public import proofs.«01_k».proof.Proof.Frames
public import proofs.«01_k».proof.Proof.Algebraic

@[expose] public section

noncomputable section

namespace Cert.Proof

/-- Every claim of the certificate. -/
theorem claim : Cert.Claim :=
  ⟨Cert.Kernel.Gen.facts, Cert.KernelIdeal.Gen.facts, Cert.ReferenceIdeal.Gen.facts, Cert.Pre_finite_scores_KernelIdeal.Gen.facts,
    Cert.Pre_finite_scores_ReferenceIdeal.Gen.facts, Cert.Attn.frame_kernel, Cert.Attn.frame_ideal, fun m ρ _ => Cert.Attn.frame_ideal m ρ trivial,
    Cert.Attn.frame_reference, fun m ρ _ => Cert.Attn.frame_reference m ρ trivial, trivial, Cert.Attn.algebraic⟩

end Cert.Proof

end
